-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8))
      ∧ r.2.sem = fun _ => 0)

def preserves_Attn_AttnIdeal : Prop :=
  True

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  IdealRules.named_const.Statement Cert.FfnIdeal.κ "gelu_c3" .f32 0x3D122279#32 ((80338380498831 / 2251799813685248 : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v17)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v17) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v76) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)) →
    ∃ (v0 : (c : Dev Cert.PreIdeal.nD) → Buf (Elt Ideal) ((c.tc : Thread Cert.PreIdeal.nD Cert.PreIdeal.τ).loc Cert.PreIdeal.main_v57_2)) (v1 : (c : Dev Cert.PreIdeal.nD) → Buf (Elt Ideal) ((c.tc : Thread Cert.PreIdeal.nD Cert.PreIdeal.τ).loc Cert.PreIdeal.main_v57_3)) (v2 : (c : Dev Cert.PreIdeal.nD) → Buf (Elt Ideal) ((c.tc : Thread Cert.PreIdeal.nD Cert.PreIdeal.τ).loc Cert.PreIdeal.main_v57_4)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v57_2) = v0 c
          ∧ r.2.mem ((c.tc : Thread Cert.PreIdeal.nD Cert.PreIdeal.τ).loc Cert.PreIdeal.main_v57_3) = v1 c
          ∧ r.2.mem ((c.tc : Thread Cert.PreIdeal.nD Cert.PreIdeal.τ).loc Cert.PreIdeal.main_v57_4) = v2 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v41) = v0 c
          ∧ r.2.mem ((c.tc : Thread Cert.PreRefIdeal.nD Cert.PreRefIdeal.τ).loc Cert.PreRefIdeal.main_v42) = v1 c
          ∧ r.2.mem ((c.tc : Thread Cert.PreRefIdeal.nD Cert.PreRefIdeal.τ).loc Cert.PreRefIdeal.main_v43) = v2 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hPre : Cert.Pre.Facts) (hPreIdeal : Cert.PreIdeal.Facts) (hPreRefIdeal : Cert.PreRefIdeal.Facts) (hPre_finite_inputs : Cert.Pre_finite_inputs.Facts),
    quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Pre (hPre := hPre)
    ∧ quiescent_PreIdeal (hPreIdeal := hPreIdeal)
    ∧ quiescent_PreRefIdeal (hPreRefIdeal := hPreRefIdeal)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Pre_PreIdeal
    ∧ algebraic_PreIdeal_PreRefIdeal (hPreIdeal := hPreIdeal) (hPreRefIdeal := hPreRefIdeal)
-- ==== Pre_finite_inputs.lean ====
abbrev S32x2048x2048 : Shape := ⟨3, ![32, 2048, 2048]⟩
abbrev S32x1024x2048 : Shape := ⟨3, ![32, 1024, 2048]⟩
abbrev S32x4x2048 : Shape := ⟨3, ![32, 4, 2048]⟩
abbrev S_ : Shape := ⟨0, ![]⟩

class Facts : Prop where
  bitsLt_bf16_f32 : FTy.bits .bf16 < FTy.bits .f32
  bcast_S_S32x2048x2048 : S_.BroadcastsInDim S32x2048x2048 (![] : Fin 0 → Fin S32x2048x2048.rank)
  bcast_S_S32x1024x2048 : S_.BroadcastsInDim S32x1024x2048 (![] : Fin 0 → Fin S32x1024x2048.rank)
  bcast_S_S32x4x2048 : S_.BroadcastsInDim S32x4x2048 (![] : Fin 0 → Fin S32x4x2048.rank)

variable [Facts]

def fn_part1 {F : FTy → Type} [FloatOps F] (main_arg4 : FVec F S32x4x2048 .f32) (main_v3 : IVec S32x2048x2048 1) (main_v7 : IVec S32x2048x2048 1) (main_v11 : IVec S32x1024x2048 1) (main_v16 : IVec S32x4x2048 1) (main_v17 : FVec F S32x4x2048 .f32) : IVec S32x2048x2048 1 × IVec S32x2048x2048 1 × IVec S32x1024x2048 1 × IVec S32x4x2048 1 × IVec S32x4x2048 1 :=
  let main_v18 : IVec S32x4x2048 1 := cmpf .oge main_arg4 main_v17
  let main_cst_5 : FVec F S_ .f32 := constant S_ .f32 0x7F800000#32
  let main_v19 : FVec F S32x4x2048 .f32 := broadcastInDim S32x4x2048 ![] bcast_S_S32x4x2048 main_cst_5
  let main_v20 : IVec S32x4x2048 1 := cmpf .olt main_arg4 main_v19
  let main_v21 : IVec S32x4x2048 1 := andi main_v18 main_v20
  (main_v3, main_v7, main_v11, main_v16, main_v21)

def fn {F : FTy → Type} [FloatOps F] (main_arg0 : FVec F S32x2048x2048 .bf16) (main_arg1 : FVec F S32x2048x2048 .bf16) (main_arg2 : FVec F S32x1024x2048 .bf16) (main_arg3 : FVec F S32x4x2048 .f32) (main_arg4 : FVec F S32x4x2048 .f32) : IVec S32x2048x2048 1 × IVec S32x2048x2048 1 × IVec S32x1024x2048 1 × IVec S32x4x2048 1 × IVec S32x4x2048 1 :=
  let main_v0 : FVec F S32x2048x2048 .f32 := (extf .f32 · bitsLt_bf16_f32) main_arg0
  let main_v1 : FVec F S32x2048x2048 .f32 := Host.absf main_v0
  let main_cst : FVec F S_ .f32 := constant S_ .f32 0x7F800000#32
  let main_v2 : FVec F S32x2048x2048 .f32 := broadcastInDim S32x2048x2048 ![] bcast_S_S32x2048x2048 main_cst
  let main_v3 : IVec S32x2048x2048 1 := cmpf .olt main_v1 main_v2
  let main_v4 : FVec F S32x2048x2048 .f32 := (extf .f32 · bitsLt_bf16_f32) main_arg1
  let main_v5 : FVec F S32x2048x2048 .f32 := Host.absf main_v4
  let main_cst_0 : FVec F S_ .f32 := constant S_ .f32 0x7F800000#32
  let main_v6 : FVec F S32x2048x2048 .f32 := broadcastInDim S32x2048x2048 ![] bcast_S_S32x2048x2048 main_cst_0
  let main_v7 : IVec S32x2048x2048 1 := cmpf .olt main_v5 main_v6
  let main_v8 : FVec F S32x1024x2048 .f32 := (extf .f32 · bitsLt_bf16_f32) main_arg2
  let main_v9 : FVec F S32x1024x2048 .f32 := Host.absf main_v8
  let main_cst_1 : FVec F S_ .f32 := constant S_ .f32 0x7F800000#32
  let main_v10 : FVec F S32x1024x2048 .f32 := broadcastInDim S32x1024x2048 ![] bcast_S_S32x1024x2048 main_cst_1
  let main_v11 : IVec S32x1024x2048 1 := cmpf .olt main_v9 main_v10
  let main_cst_2 : FVec F S_ .f32 := constant S_ .f32 0x00000000#32
  let main_v12 : FVec F S32x4x2048 .f32 := broadcastInDim S32x4x2048 ![] bcast_S_S32x4x2048 main_cst_2
  let main_v13 : IVec S32x4x2048 1 := cmpf .oge main_arg3 main_v12
  let main_cst_3 : FVec F S_ .f32 := constant S_ .f32 0x7F800000#32
  let main_v14 : FVec F S32x4x2048 .f32 := broadcastInDim S32x4x2048 ![] bcast_S_S32x4x2048 main_cst_3
  let main_v15 : IVec S32x4x2048 1 := cmpf .olt main_arg3 main_v14
  let main_v16 : IVec S32x4x2048 1 := andi main_v13 main_v15
  let main_cst_4 : FVec F S_ .f32 := constant S_ .f32 0x00000000#32
  let main_v17 : FVec F S32x4x2048 .f32 := broadcastInDim S32x4x2048 ![] bcast_S_S32x4x2048 main_cst_4
  fn_part1 (F := F) main_arg4 main_v3 main_v7 main_v11 main_v16 main_v17
-- ==== Attn.lean ====
abbrev S32x2048x2048 : Shape := ⟨3, ![32, 2048, 2048]⟩
abbrev S32x1024x2048 : Shape := ⟨3, ![32, 1024, 2048]⟩
abbrev S32x4x2048 : Shape := ⟨3, ![32, 4, 2048]⟩
abbrev S32x4x1x2048 : Shape := ⟨4, ![32, 4, 1, 2048]⟩
abbrev S32x2048x1024 : Shape := ⟨3, ![32, 2048, 1024]⟩
abbrev S1x2048x512 : Shape := ⟨3, ![1, 2048, 512]⟩
abbrev S1x256x2048 : Shape := ⟨3, ![1, 256, 2048]⟩
abbrev S1x1x1x2048 : Shape := ⟨4, ![1, 1, 1, 2048]⟩
abbrev S1x2048x256 : Shape := ⟨3, ![1, 2048, 256]⟩
abbrev S1x2048 : Shape := ⟨2, ![1, 2048]⟩
abbrev S1 : Shape := ⟨1, ![1]⟩
abbrev S1x1 : Shape := ⟨2, ![1, 1]⟩
abbrev S1x1x1x512 : Shape := ⟨4, ![1, 1, 1, 512]⟩
abbrev S1x512 : Shape := ⟨2, ![1, 512]⟩
abbrev S2048x256 : Shape := ⟨2, ![2048, 256]⟩
abbrev S1x512x256 : Shape := ⟨3, ![1, 512, 256]⟩
abbrev S512x256 : Shape := ⟨2, ![512, 256]⟩
abbrev S2048x512 : Shape := ⟨2, ![2048, 512]⟩
abbrev S512 : Shape := ⟨1, ![512]⟩
abbrev S1x128x2048 : Shape := ⟨3, ![1, 128, 2048]⟩
abbrev S128x2048 : Shape := ⟨2, ![128, 2048]⟩
abbrev S128x512 : Shape := ⟨2, ![128, 512]⟩
abbrev S512x128 : Shape := ⟨2, ![512, 128]⟩
abbrev S1x512x128 : Shape := ⟨3, ![1, 512, 128]⟩
abbrev S1x1x512 : Shape := ⟨3, ![1, 1, 512]⟩
abbrev S1x1x1 : Shape := ⟨3, ![1, 1, 1]⟩

abbrev nBuf : Space → Nat
  | .hbm => 8
  | .vmem => 12
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x2048, .bf16⟩
  | .hbm, ⟨2, _⟩ => ⟨S32x1024x2048, .bf16⟩
  | .hbm, ⟨3, _⟩ => ⟨S32x4x2048, .f32⟩
  | .hbm, ⟨4, _⟩ => ⟨S32x4x2048, .f32⟩
  | .hbm, ⟨5, _⟩ => ⟨S32x4x1x2048, .f32⟩
  | .hbm, ⟨6, _⟩ => ⟨S32x4x1x2048, .f32⟩
  | .hbm, ⟨7, _⟩ => ⟨S32x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048x256, .bf16⟩
  | .local _ .vmem, ⟨11, _⟩ => ⟨S1x2048x256, .bf16⟩
  | _, _ => ⟨S32x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32_161 : BitVec 32 := 0#32
  let c4_i32 : BitVec 32 := 4#32
  let v246 : BitVec 32 := Scalar.addi c0_i32_161 c4_i32
  let c1_i32 : BitVec 32 := 1#32
  ⟨c0_i32_161, v246, c1_i32⟩
def k0_mult1 (k0_t1 : Fin k0_t1_loop.trips) : BitVec 32 :=
  let c0_i32_161 : BitVec 32 := 0#32
  let c1_i32 : BitVec 32 := 1#32
  let arg8 : BitVec 32 := Scf.iv c0_i32_161 c1_i32 k0_t1
  let c512_i32 : BitVec 32 := 512#32
  let v248 : BitVec 32 := Scalar.muli arg8 c512_i32
  v248
def k0_off1 (k0_t1 : Fin k0_t1_loop.trips) : Fin 3 → Nat :=
  let c0_170 : Index := 0#32
  let c0_i32_161 : BitVec 32 := 0#32
  let c1_i32 : BitVec 32 := 1#32
  let arg8 : BitVec 32 := Scf.iv c0_i32_161 c1_i32 k0_t1
  let c512_i32 : BitVec 32 := 512#32
  let v248 : BitVec 32 := Scalar.muli arg8 c512_i32
  let v249 : BitVec 32 := v248
  let v252 : Index := Scalar.indexCast v249
  let c0_171 : Index := 0#32
  ![0, v252.toNat, 0]
def k0_off2 (k0_t1 : Fin k0_t1_loop.trips) : Fin 3 → Nat :=
  let c0_180 : Index := 0#32
  let c0_i32_161 : BitVec 32 := 0#32
  let c1_i32 : BitVec 32 := 1#32
  let arg8 : BitVec 32 := Scf.iv c0_i32_161 c1_i32 k0_t1
  let c512_i32 : BitVec 32 := 512#32
  let v248 : BitVec 32 := Scalar.muli arg8 c512_i32
  let v249 : BitVec 32 := v248
  let v273 : Index := Scalar.indexCast v249
  let c0_181 : Index := 0#32
  ![0, v273.toNat, 0]
@[reducible] def k0_t2_loop : Scf.Loop 32 :=
  let c0_i32_163 : BitVec 32 := 0#32
  let c4_i32_164 : BitVec 32 := 4#32
  let v247 : BitVec 32 := Scalar.addi c0_i32_163 c4_i32_164
  let c1_i32_165 : BitVec 32 := 1#32
  ⟨c0_i32_163, v247, c1_i32_165⟩
def k0_mult2 (k0_t2 : Fin k0_t2_loop.trips) : BitVec 32 :=
  let c0_i32_163 : BitVec 32 := 0#32
  let c1_i32_165 : BitVec 32 := 1#32
  let arg8 : BitVec 32 := Scf.iv c0_i32_163 c1_i32_165 k0_t2
  let c512_i32 : BitVec 32 := 512#32
  let v248 : BitVec 32 := Scalar.muli arg8 c512_i32
  v248
def k0_off3 (k0_t2 : Fin k0_t2_loop.trips) : Fin 3 → Nat :=
  let c0_170 : Index := 0#32
  let c0_i32_163 : BitVec 32 := 0#32
  let c1_i32_165 : BitVec 32 := 1#32
  let arg8 : BitVec 32 := Scf.iv c0_i32_163 c1_i32_165 k0_t2
  let c512_i32 : BitVec 32 := 512#32
  let v248 : BitVec 32 := Scalar.muli arg8 c512_i32
  let v249 : BitVec 32 := v248
  let v252 : Index := Scalar.indexCast v249
  let c256_171 : Index := 256#32
  ![0, v252.toNat, 256]
def k0_off4 (k0_t2 : Fin k0_t2_loop.trips) : Fin 3 → Nat :=
  let c0_180 : Index := 0#32
  let c0_i32_163 : BitVec 32 := 0#32
  let c1_i32_165 : BitVec 32 := 1#32
  let arg8 : BitVec 32 := Scf.iv c0_i32_163 c1_i32_165 k0_t2
  let c512_i32 : BitVec 32 := 512#32
  let v248 : BitVec 32 := Scalar.muli arg8 c512_i32
  let v249 : BitVec 32 := v248
  let v273 : Index := Scalar.indexCast v249
  let c128_181 : Index := 128#32
  ![0, v273.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![arg0.toNat, v17.toNat, c0_i32_5.toNat, c0_i32_6.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![arg0.toNat, v17.toNat, c0_i32_5.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S32x2048x2048 : Shape := ⟨3, ![32, 2048, 2048]⟩
abbrev S32x1024x2048 : Shape := ⟨3, ![32, 1024, 2048]⟩
abbrev S32x4x2048 : Shape := ⟨3, ![32, 4, 2048]⟩
abbrev S32x2048x8x256 : Shape := ⟨4, ![32, 2048, 8, 256]⟩
abbrev S32x8x128x2048 : Shape := ⟨4, ![32, 8, 128, 2048]⟩
abbrev S32x2048x8x128 : Shape := ⟨4, ![32, 2048, 8, 128]⟩
abbrev S32x8x2048x2048 : Shape := ⟨4, ![32, 8, 2048, 2048]⟩
abbrev S_ : Shape := ⟨0, ![]⟩
abbrev S32x8x2048 : Shape := ⟨3, ![32, 8, 2048]⟩
abbrev S32x8x2048x1 : Shape := ⟨4, ![32, 8, 2048, 1]⟩
abbrev S32x2048x1024 : Shape := ⟨3, ![32, 2048, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x2048, .bf16⟩
  | .hbm, ⟨2, _⟩ => ⟨S32x1024x2048, .bf16⟩
  | .hbm, ⟨3, _⟩ => ⟨S32x4x2048, .f32⟩
  | .hbm, ⟨4, _⟩ => ⟨S32x4x2048, .f32⟩
  | .hbm, ⟨5, _⟩ => ⟨S32x2048x2048, .f32⟩
  | .hbm, ⟨6, _⟩ => ⟨S32x2048x8x256, .f32⟩
  | .hbm, ⟨7, _⟩ => ⟨S32x2048x2048, .f32⟩
  | .hbm, ⟨8, _⟩ => ⟨S32x2048x8x256, .f32⟩
  | .hbm, ⟨9, _⟩ => ⟨S32x1024x2048, .f32⟩
  | .hbm, ⟨10, _⟩ => ⟨S32x8x128x2048, .f32⟩
  | .hbm, ⟨11, _⟩ => ⟨S32x2048x8x128, .f32⟩
  | .hbm, ⟨12, _⟩ => ⟨S32x8x2048x2048, .f32⟩
  | .hbm, ⟨13, _⟩ => ⟨S_, .f32⟩
  | .hbm, ⟨14, _⟩ => ⟨S_, .f32⟩
  | .hbm, ⟨15, _⟩ => ⟨S32x8x2048x2048, .f32⟩
  | .hbm, ⟨16, _⟩ => ⟨S32x8x2048x2048, .f32⟩
  | .hbm, ⟨17, _⟩ => ⟨S_, .f32⟩
  | .hbm, ⟨18, _⟩ => ⟨S32x8x2048, .f32⟩
  | .hbm, ⟨19, _⟩ => ⟨S_, .f32⟩
  | .hbm, ⟨20, _⟩ => ⟨S32x8x2048, .f32⟩
  | .hbm, ⟨21, _⟩ => ⟨S32x8x2048, .f32⟩
  | .hbm, ⟨22, _⟩ => ⟨S32x8x2048x1, .f32⟩
  | .hbm, ⟨23, _⟩ => ⟨S32x8x2048x2048, .f32⟩
  | .hbm, ⟨24, _⟩ => ⟨S32x8x2048x2048, .f32⟩
  | .hbm, ⟨25, _⟩ => ⟨S32x8x2048x2048, .f32⟩
  | .hbm, ⟨26, _⟩ => ⟨S_, .f32⟩
  | .hbm, ⟨27, _⟩ => ⟨S32x8x2048, .f32⟩
  | .hbm, ⟨28, _⟩ => ⟨S32x8x2048x1, .f32⟩
  | .hbm, ⟨29, _⟩ => ⟨S32x8x2048x2048, .f32⟩
  | .hbm, ⟨30, _⟩ => ⟨S32x8x2048x2048, .f32⟩
  | .hbm, ⟨31, _⟩ => ⟨S32x8x128x2048, .f32⟩
  | .hbm, ⟨32, _⟩ => ⟨S32x2048x8x128, .f32⟩
  | .hbm, ⟨33, _⟩ => ⟨S32x2048x1024, .f32⟩
  | .hbm, ⟨34, _⟩ => ⟨S32x2048x1024, .bf16⟩
  | _, _ => ⟨S32x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Ffn.lean ====
abbrev S32x2048x1024 : Shape := ⟨3, ![32, 2048, 1024]⟩
abbrev S32x1x1024 : Shape := ⟨3, ![32, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1024x2816 : Shape := ⟨2, ![1024, 2816]⟩
abbrev S3x2816 : Shape := ⟨2, ![3, 2816]⟩
abbrev S_ : Shape := ⟨0, ![]⟩
abbrev S2816 : Shape := ⟨1, ![2816]⟩
abbrev S1x2816 : Shape := ⟨2, ![1, 2816]⟩
abbrev S1x8x1024 : Shape := ⟨3, ![1, 8, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1024x256 : Shape := ⟨2, ![1024, 256]⟩
abbrev S1040x256 : Shape := ⟨2, ![1040, 256]⟩
abbrev S1x256 : Shape := ⟨2, ![1, 256]⟩
abbrev S1024x1 : Shape := ⟨2, ![1024, 1]⟩

abbrev nBuf : Space → Nat
  | .hbm => 30
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1x1024, .f32⟩
  | .hbm, ⟨11, _⟩ => ⟨S1x1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S3x2816, .f32⟩
  | .hbm, ⟨17, _⟩ => ⟨S3x2816, .f32⟩
  | .hbm, ⟨18, _⟩ => ⟨S_, .f32⟩
  | .hbm, ⟨19, _⟩ => ⟨S3x2816, .f32⟩
  | .hbm, ⟨20, _⟩ => ⟨S3x2816, .f32⟩
  | .hbm, ⟨21, _⟩ => ⟨S2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S_, .f32⟩
  | .hbm, ⟨26, _⟩ => ⟨S1x2816, .f32⟩
  | .hbm, ⟨27, _⟩ => ⟨S1x2816, .f32⟩
  | .hbm, ⟨28, _⟩ => ⟨S2816x1024, .bf16⟩
  | .hbm, ⟨29, _⟩ => ⟨S32x2048x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S3x2816, .f32⟩
  | .local _ .vmem, ⟨17, _⟩ => ⟨S3x2816, .f32⟩
  | .local _ .vmem, ⟨18, _⟩ => ⟨S1x2816, .f32⟩
  | .local _ .vmem, ⟨19, _⟩ => ⟨S1x2816, .f32⟩
  | .local _ .vmem, ⟨20, _⟩ => ⟨S2816x1024, .bf16⟩
  | .local _ .vmem, ⟨21, _⟩ => ⟨S1x1024x1024, .f32⟩
  | .local _ .vmem, ⟨22, _⟩ => ⟨S1x1024x1024, .f32⟩
  | .local _ .vmem, ⟨23, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FfnIdeal.lean ====
variable {F : FTy → Type} [FloatOps F] [Named F]
def κ : String → Option EReal := fun
  | "gelu_c3" => some ((80338380498831 / 2251799813685248 : ℝ) : EReal)
  | _ => none
-- ==== FfnRefIdeal.lean ====
abbrev S32x2048x1024 : Shape := ⟨3, ![32, 2048, 1024]⟩
abbrev S32x1x1024 : Shape := ⟨3, ![32, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩

abbrev nBuf : Space → Nat
  | .hbm => 100
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S32x2048x1024, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S32x2048x1, .f32⟩
  | .hbm, ⟨21, _⟩ => ⟨S32x2048x1024, .f32⟩
  | .hbm, ⟨22, _⟩ => ⟨S32x2048x1024, .f32⟩
  | .hbm, ⟨23, _⟩ => ⟨S1x1x1024, .f32⟩
  | .hbm, ⟨24, _⟩ => ⟨S32x2048x1024, .f32⟩
  | .hbm, ⟨25, _⟩ => ⟨S32x2048x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x5632, .f32⟩
  | .hbm, ⟨34, _⟩ => ⟨S_, .i32⟩
  | .hbm, ⟨35, _⟩ => ⟨S_, .f32⟩
  | .hbm, ⟨36, _⟩ => ⟨S32x2050x5632, .f32⟩
  | .hbm, ⟨37, _⟩ => ⟨S32x2048x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S32x2048x5632, .f32⟩
  | .hbm, ⟨42, _⟩ => ⟨S32x2048x5632, .f32⟩
  | .hbm, ⟨43, _⟩ => ⟨S32x2048x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S32x2048x5632, .f32⟩
  | .hbm, ⟨48, _⟩ => ⟨S32x2048x5632, .f32⟩
  | .hbm, ⟨49, _⟩ => ⟨S32x2048x5632, .f32⟩
  | .hbm, ⟨50, _⟩ => ⟨S32x2048x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S32x2048x5632, .f32⟩
  | .hbm, ⟨55, _⟩ => ⟨S32x2048x5632, .f32⟩
  | .hbm, ⟨56, _⟩ => ⟨S32x2048x5632, .f32⟩
  | .hbm, ⟨57, _⟩ => ⟨S1x1x5632, .f32⟩
  | .hbm, ⟨58, _⟩ => ⟨S32x2048x5632, .f32⟩
  | .hbm, ⟨59, _⟩ => ⟨S32x2048x5632, .f32⟩
  | .hbm, ⟨60, _⟩ => ⟨S32x2048x2816, .f32⟩
  | .hbm, ⟨61, _⟩ => ⟨S32x2048x2816, .f32⟩
  | .hbm, ⟨62, _⟩ => ⟨S32x2048x2816, .f32⟩
  | .hbm, ⟨63, _⟩ => ⟨S32x2048x2816, .f32⟩
  | .hbm, ⟨64, _⟩ => ⟨S_, .f32⟩
  | .hbm, ⟨65, _⟩ => ⟨S32x2048x2816, .f32⟩
  | .hbm, ⟨66, _⟩ => ⟨S32x2048x2816, .f32⟩
  | .hbm, ⟨67, _⟩ => ⟨S32x2048x2816, .f32⟩
  | .hbm, ⟨68, _⟩ => ⟨S_, .f32⟩
  | .hbm, ⟨69, _⟩ => ⟨S32x2048x2816, .f32⟩
  | .hbm, ⟨70, _⟩ => ⟨S32x2048x2816, .f32⟩
  | .hbm, ⟨71, _⟩ => ⟨S32x2048x2816, .f32⟩
  | .hbm, ⟨72, _⟩ => ⟨S_, .f32⟩
  | .hbm, ⟨73, _⟩ => ⟨S32x2048x2816, .f32⟩
  | .hbm, ⟨74, _⟩ => ⟨S32x2048x2816, .f32⟩
  | .hbm, ⟨75, _⟩ => ⟨S_, .f32⟩
  | .hbm, ⟨76, _⟩ => ⟨S32x2048x2816, .f32⟩
  | .hbm, ⟨77, _⟩ => ⟨S32x2048x2816, .f32⟩
  | .hbm, ⟨78, _⟩ => ⟨S32x2048x2816, .f32⟩
  | .hbm, ⟨79, _⟩ => ⟨S32x2048x2816, .f32⟩
  | .hbm, ⟨80, _⟩ => ⟨S32x2048x1024, .f32⟩
  | .hbm, ⟨81, _⟩ => ⟨S32x2048x1024, .f32⟩
  | .hbm, ⟨82, _⟩ => ⟨S_, .f32⟩
  | .hbm, ⟨83, _⟩ => ⟨S32x2048, .f32⟩
  | .hbm, ⟨84, _⟩ => ⟨S32x2048x1, .f32⟩
  | .hbm, ⟨85, _⟩ => ⟨S_, .f32⟩
  | .hbm, ⟨86, _⟩ => ⟨S32x2048x1, .f32⟩
  | .hbm, ⟨87, _⟩ => ⟨S32x2048x1, .f32⟩
  | .hbm, ⟨88, _⟩ => ⟨S_, .f32⟩
  | .hbm, ⟨89, _⟩ => ⟨S32x2048x1, .f32⟩
  | .hbm, ⟨90, _⟩ => ⟨S32x2048x1, .f32⟩
  | .hbm, ⟨91, _⟩ => ⟨S32x2048x1, .f32⟩
  | .hbm, ⟨92, _⟩ => ⟨S32x2048x1024, .f32⟩
  | .hbm, ⟨93, _⟩ => ⟨S32x2048x1024, .f32⟩
  | .hbm, ⟨94, _⟩ => ⟨S1x1x1024, .f32⟩
  | .hbm, ⟨95, _⟩ => ⟨S32x2048x1024, .f32⟩
  | .hbm, ⟨96, _⟩ => ⟨S32x2048x1024, .f32⟩
  | .hbm, ⟨97, _⟩ => ⟨S32x2048x1024, .f32⟩
  | .hbm, ⟨98, _⟩ => ⟨S32x2048x1024, .f32⟩
  | .hbm, ⟨99, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== Merge.lean ====
abbrev S32x2048x1024 : Shape := ⟨3, ![32, 2048, 1024]⟩
abbrev S32x2048x512 : Shape := ⟨3, ![32, 2048, 512]⟩
abbrev S32x2048x2048 : Shape := ⟨3, ![32, 2048, 2048]⟩
abbrev S32x1x1024 : Shape := ⟨3, ![32, 1, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x1024x2048 : Shape := ⟨3, ![1, 1024, 2048]⟩
abbrev S1x1x1024 : Shape := ⟨3, ![1, 1, 1024]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x512, .bf16⟩
  | .hbm, ⟨2, _⟩ => ⟨S32x2048x2048, .bf16⟩
  | .hbm, ⟨3, _⟩ => ⟨S32x2048x1024, .f32⟩
  | .hbm, ⟨4, _⟩ => ⟨S32x1x1024, .f32⟩
  | .hbm, ⟨5, _⟩ => ⟨S1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1024x1024, .bf16⟩
  | .hbm, ⟨11, _⟩ => ⟨S512x1024, .bf16⟩
  | .hbm, ⟨12, _⟩ => ⟨S1024x1024, .bf16⟩
  | .hbm, ⟨13, _⟩ => ⟨S32x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S32x2048x1024 : Shape := ⟨3, ![32, 2048, 1024]⟩
abbrev S32x2048x512 : Shape := ⟨3, ![32, 2048, 512]⟩
abbrev S32x2048x2048 : Shape := ⟨3, ![32, 2048, 2048]⟩
abbrev S32x1x1024 : Shape := ⟨3, ![32, 1, 1024]⟩
abbrev S1024 : Shape := ⟨1, ![1024]⟩
abbrev S1024x1024 : Shape := ⟨2, ![1024, 1024]⟩
abbrev S512x1024 : Shape := ⟨2, ![512, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x512, .bf16⟩
  | .hbm, ⟨2, _⟩ => ⟨S32x2048x2048, .bf16⟩
  | .hbm, ⟨3, _⟩ => ⟨S32x2048x1024, .f32⟩
  | .hbm, ⟨4, _⟩ => ⟨S32x1x1024, .f32⟩
  | .hbm, ⟨5, _⟩ => ⟨S1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S32x2048x2048, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S32x2048x1024, .f32⟩
  | .hbm, ⟨14, _⟩ => ⟨S32x2048x512, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S_, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048, .f32⟩
  | .hbm, ⟨39, _⟩ => ⟨S32x2048x1, .f32⟩
  | .hbm, ⟨40, _⟩ => ⟨S_, .f32⟩
  | .hbm, ⟨41, _⟩ => ⟨S32x2048x1, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S32x2048x1, .f32⟩
  | .hbm, ⟨47, _⟩ => ⟨S32x2048x1024, .f32⟩
  | .hbm, ⟨48, _⟩ => ⟨S32x2048x1024, .f32⟩
  | .hbm, ⟨49, _⟩ => ⟨S1x1x1024, .f32⟩
  | .hbm, ⟨50, _⟩ => ⟨S32x2048x1024, .f32⟩
  | .hbm, ⟨51, _⟩ => ⟨S32x2048x1024, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Pre.lean ====
abbrev S32x2048x1024 : Shape := ⟨3, ![32, 2048, 1024]⟩
abbrev S32x1x1024 : Shape := ⟨3, ![32, 1, 1024]⟩
abbrev S1024 : Shape := ⟨1, ![1024]⟩
abbrev S1024x3392 : Shape := ⟨2, ![1024, 3392]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S512x8x192 : Shape := ⟨3, ![512, 8, 192]⟩
abbrev S256x8x256 : Shape := ⟨3, ![256, 8, 256]⟩
abbrev S1x1024 : Shape := ⟨2, ![1, 1024]⟩
abbrev S1024x512 : Shape := ⟨2, ![1024, 512]⟩
abbrev S1024x256 : Shape := ⟨2, ![1024, 256]⟩
abbrev S1024x64 : Shape := ⟨2, ![1024, 64]⟩
abbrev S_ : Shape := ⟨0, ![]⟩
abbrev S1024x128 : Shape := ⟨2, ![1024, 128]⟩
abbrev S1024x2048 : Shape := ⟨2, ![1024, 2048]⟩
abbrev S1x512 : Shape := ⟨2, ![1, 512]⟩
abbrev S1x256 : Shape := ⟨2, ![1, 256]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S256x8x128 : Shape := ⟨3, ![256, 8, 128]⟩
abbrev S256x1024 : Shape := ⟨2, ![256, 1024]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S16 : Shape := ⟨1, ![16]⟩
abbrev S16x1 : Shape := ⟨2, ![16, 1]⟩
abbrev S16x512 : Shape := ⟨2, ![16, 512]⟩
abbrev S32x2048x2048 : Shape := ⟨3, ![32, 2048, 2048]⟩
abbrev S32x1024x2048 : Shape := ⟨3, ![32, 1024, 2048]⟩
abbrev S32x2048x512 : Shape := ⟨3, ![32, 2048, 512]⟩
abbrev S32x4x2048 : Shape := ⟨3, ![32, 4, 2048]⟩
abbrev S1x512x1024 : Shape := ⟨3, ![1, 512, 1024]⟩
abbrev S1x1x1024 : Shape := ⟨3, ![1, 1, 1024]⟩
abbrev S512x128 : Shape := ⟨2, ![512, 128]⟩
abbrev S1x512x2048 : Shape := ⟨3, ![1, 512, 2048]⟩
abbrev S1x1024x512 : Shape := ⟨3, ![1, 1024, 512]⟩
abbrev S1x512x512 : Shape := ⟨3, ![1, 512, 512]⟩
abbrev S1x4x512 : Shape := ⟨3, ![1, 4, 512]⟩
abbrev S512x1 : Shape := ⟨2, ![512, 1]⟩
abbrev S512x256 : Shape := ⟨2, ![512, 256]⟩
abbrev S512x2048 : Shape := ⟨2, ![512, 2048]⟩
abbrev S1x512x128 : Shape := ⟨3, ![1, 512, 128]⟩
abbrev S4x512 : Shape := ⟨2, ![4, 512]⟩

abbrev nBuf : Space → Nat
  | .hbm => 96
  | .vmem => 37
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x3392, .f32⟩
  | .hbm, ⟨5, _⟩ => ⟨S512, .f32⟩
  | .hbm, ⟨6, _⟩ => ⟨S512x1536, .f32⟩
  | .hbm, ⟨7, _⟩ => ⟨S256, .f32⟩
  | .hbm, ⟨8, _⟩ => ⟨S256x2048, .f32⟩
  | .hbm, ⟨9, _⟩ => ⟨S512x8x192, .f32⟩
  | .hbm, ⟨10, _⟩ => ⟨S256x8x256, .f32⟩
  | .hbm, ⟨11, _⟩ => ⟨S1x1024, .f32⟩
  | .hbm, ⟨12, _⟩ => ⟨S1024x512, .f32⟩
  | .hbm, ⟨13, _⟩ => ⟨S1024x512, .bf16⟩
  | .hbm, ⟨14, _⟩ => ⟨S1024x256, .f32⟩
  | .hbm, ⟨15, _⟩ => ⟨S1024x256, .bf16⟩
  | .hbm, ⟨16, _⟩ => ⟨S1024x64, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1024x512, .f32⟩
  | .hbm, ⟨22, _⟩ => ⟨S1024x512, .bf16⟩
  | .hbm, ⟨23, _⟩ => ⟨S1024x2048, .f32⟩
  | .hbm, ⟨24, _⟩ => ⟨S1024x2048, .bf16⟩
  | .hbm, ⟨25, _⟩ => ⟨S1x512, .f32⟩
  | .hbm, ⟨26, _⟩ => ⟨S1x256, .f32⟩
  | .hbm, ⟨27, _⟩ => ⟨S512x8x128, .f32⟩
  | .hbm, ⟨28, _⟩ => ⟨S512x1024, .f32⟩
  | .hbm, ⟨29, _⟩ => ⟨S512x1024, .bf16⟩
  | .hbm, ⟨30, _⟩ => ⟨S512x8x64, .f32⟩
  | .hbm, ⟨31, _⟩ => ⟨S512x512, .f32⟩
  | .hbm, ⟨32, _⟩ => ⟨S512x512, .bf16⟩
  | .hbm, ⟨33, _⟩ => ⟨S256x8x128, .f32⟩
  | .hbm, ⟨34, _⟩ => ⟨S256x1024, .f32⟩
  | .hbm, ⟨35, _⟩ => ⟨S256x1024, .bf16⟩
  | .hbm, ⟨36, _⟩ => ⟨S256x8x128, .f32⟩
  | .hbm, ⟨37, _⟩ => ⟨S256x1024, .f32⟩
  | .hbm, ⟨38, _⟩ => ⟨S1024x256, .f32⟩
  | .hbm, ⟨39, _⟩ => ⟨S1024x256, .bf16⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S2048, .f32⟩
  | .hbm, ⟨51, _⟩ => ⟨S2048x1, .f32⟩
  | .hbm, ⟨52, _⟩ => ⟨S1x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S2048x32, .f32⟩
  | .hbm, ⟨58, _⟩ => ⟨S_, .f32⟩
  | .hbm, ⟨59, _⟩ => ⟨S2048x64, .f32⟩
  | .hbm, ⟨60, _⟩ => ⟨S2048x128, .f32⟩
  | .hbm, ⟨61, _⟩ => ⟨S2048x32, .f32⟩
  | .hbm, ⟨62, _⟩ => ⟨S2048x128, .f32⟩
  | .hbm, ⟨63, _⟩ => ⟨S16, .i32⟩
  | .hbm, ⟨64, _⟩ => ⟨S16x1, .i32⟩
  | .hbm, ⟨65, _⟩ => ⟨S512, .i32⟩
  | .hbm, ⟨66, _⟩ => ⟨S1x512, .i32⟩
  | .hbm, ⟨67, _⟩ => ⟨S_, .i32⟩
  | .hbm, ⟨68, _⟩ => ⟨S_, .i32⟩
  | .hbm, ⟨69, _⟩ => ⟨S1x512, .i32⟩
  | .hbm, ⟨70, _⟩ => ⟨S1x512, .i32⟩
  | .hbm, ⟨71, _⟩ => ⟨S1x512, .i32⟩
  | .hbm, ⟨72, _⟩ => ⟨S_, .i32⟩
  | .hbm, ⟨73, _⟩ => ⟨S1x512, .i32⟩
  | .hbm, ⟨74, _⟩ => ⟨S1x512, .i1⟩
  | .hbm, ⟨75, _⟩ => ⟨S1x512, .i32⟩
  | .hbm, ⟨76, _⟩ => ⟨S1x512, .i32⟩
  | .hbm, ⟨77, _⟩ => ⟨S_, .i32⟩
  | .hbm, ⟨78, _⟩ => ⟨S1x512, .i32⟩
  | .hbm, ⟨79, _⟩ => ⟨S1x512, .i1⟩
  | .hbm, ⟨80, _⟩ => ⟨S1x512, .i1⟩
  | .hbm, ⟨81, _⟩ => ⟨S_, .i32⟩
  | .hbm, ⟨82, _⟩ => ⟨S1x512, .i32⟩
  | .hbm, ⟨83, _⟩ => ⟨S1x512, .i32⟩
  | .hbm, ⟨84, _⟩ => ⟨S1x512, .i32⟩
  | .hbm, ⟨85, _⟩ => ⟨S16x512, .i32⟩
  | .hbm, ⟨86, _⟩ => ⟨S16x512, .i32⟩
  | .hbm, ⟨87, _⟩ => ⟨S16x512, .i1⟩
  | .hbm, ⟨88, _⟩ => ⟨S16x512, .bf16⟩
  | .hbm, ⟨89, _⟩ => ⟨S32x2048x2048, .bf16⟩
  | .hbm, ⟨90, _⟩ => ⟨S32x2048x2048, .bf16⟩
  | .hbm, ⟨91, _⟩ => ⟨S32x1024x2048, .bf16⟩
  | .hbm, ⟨92, _⟩ => ⟨S32x2048x512, .bf16⟩
  | .hbm, ⟨93, _⟩ => ⟨S32x2048x2048, .bf16⟩
  | .hbm, ⟨94, _⟩ => ⟨S32x4x2048, .f32⟩
  | .hbm, ⟨95, _⟩ => ⟨S32x4x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x256, .bf16⟩
  | .local _ .vmem, ⟨9, _⟩ => ⟨S1024x128, .bf16⟩
  | .local _ .vmem, ⟨10, _⟩ => ⟨S1024x512, .bf16⟩
  | .local _ .vmem, ⟨11, _⟩ => ⟨S1024x2048, .bf16⟩
  | .local _ .vmem, ⟨12, _⟩ => ⟨S1x512, .f32⟩
  | .local _ .vmem, ⟨13, _⟩ => ⟨S1x256, .f32⟩
  | .local _ .vmem, ⟨14, _⟩ => ⟨S512x1024, .bf16⟩
  | .local _ .vmem, ⟨15, _⟩ => ⟨S512x512, .bf16⟩
  | .local _ .vmem, ⟨16, _⟩ => ⟨S256x1024, .bf16⟩
  | .local _ .vmem, ⟨17, _⟩ => ⟨S1024x256, .bf16⟩
  | .local _ .vmem, ⟨18, _⟩ => ⟨S16x512, .bf16⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S1x512x2048, .bf16⟩
  | .local _ .vmem, ⟨24, _⟩ => ⟨S1x512x2048, .bf16⟩
  | .local _ .vmem, ⟨25, _⟩ => ⟨S1x512x2048, .bf16⟩
  | .local _ .vmem, ⟨26, _⟩ => ⟨S1x512x2048, .bf16⟩
  | .local _ .vmem, ⟨27, _⟩ => ⟨S1x1024x512, .bf16⟩
  | .local _ .vmem, ⟨28, _⟩ => ⟨S1x1024x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x2048, .bf16⟩
  | .local _ .vmem, ⟨32, _⟩ => ⟨S1x512x2048, .bf16⟩
  | .local _ .vmem, ⟨33, _⟩ => ⟨S1x4x512, .f32⟩
  | .local _ .vmem, ⟨34, _⟩ => ⟨S1x4x512, .f32⟩
  | .local _ .vmem, ⟨35, _⟩ => ⟨S1x4x512, .f32⟩
  | .local _ .vmem, ⟨36, _⟩ => ⟨S1x4x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_0 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_3 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_c : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_0 : Ref sig .tc := ⟨.hbm, 81, rfl⟩
abbrev main_call1_v12 : Ref sig .tc := ⟨.hbm, 82, rfl⟩
abbrev main_call1_v13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57_0 : Ref sig .tc := ⟨.hbm, 89, rfl⟩
abbrev main_v57_1 : Ref sig .tc := ⟨.hbm, 90, rfl⟩
abbrev main_v57_2 : Ref sig .tc := ⟨.hbm, 91, rfl⟩
abbrev main_v57_3 : Ref sig .tc := ⟨.hbm, 92, rfl⟩
abbrev main_v57_4 : Ref sig .tc := ⟨.hbm, 93, rfl⟩
abbrev main_v57_5 : Ref sig .tc := ⟨.hbm, 94, rfl⟩
abbrev main_v57_6 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x4x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x4x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== PreRefIdeal.lean ====
abbrev S32x2048x1024 : Shape := ⟨3, ![32, 2048, 1024]⟩
abbrev S32x1x1024 : Shape := ⟨3, ![32, 1, 1024]⟩
abbrev S1024 : Shape := ⟨1, ![1024]⟩
abbrev S1024x3392 : Shape := ⟨2, ![1024, 3392]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3392 : Shape := ⟨3, ![32, 2048, 3392]⟩
abbrev S32x2048x256 : Shape := ⟨3, ![32, 2048, 256]⟩
abbrev S1x1x256 : Shape := ⟨3, ![1, 1, 256]⟩
abbrev S32x2048x512 : Shape := ⟨3, ![32, 2048, 512]⟩
abbrev S32x2048x2048 : Shape := ⟨3, ![32, 2048, 2048]⟩
abbrev S32x2048x8x256 : Shape := ⟨4, ![32, 2048, 8, 256]⟩
abbrev S32x2048x8x128 : Shape := ⟨4, ![32, 2048, 8, 128]⟩
abbrev S32x1024x2048 : Shape := ⟨3, ![32, 1024, 2048]⟩

abbrev nBuf : Space → Nat
  | .hbm => 60
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x3392, .f32⟩
  | .hbm, ⟨5, _⟩ => ⟨S512, .f32⟩
  | .hbm, ⟨6, _⟩ => ⟨S512x1536, .f32⟩
  | .hbm, ⟨7, _⟩ => ⟨S256, .f32⟩
  | .hbm, ⟨8, _⟩ => ⟨S256x2048, .f32⟩
  | .hbm, ⟨9, _⟩ => ⟨S32x2048x1024, .f32⟩
  | .hbm, ⟨10, _⟩ => ⟨S_, .f32⟩
  | .hbm, ⟨11, _⟩ => ⟨S32x2048, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S32x2048x1, .f32⟩
  | .hbm, ⟨20, _⟩ => ⟨S32x2048x1024, .f32⟩
  | .hbm, ⟨21, _⟩ => ⟨S32x2048x1024, .f32⟩
  | .hbm, ⟨22, _⟩ => ⟨S1x1x1024, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x1x1024, .f32⟩
  | .hbm, ⟨27, _⟩ => ⟨S32x1x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x3392, .f32⟩
  | .hbm, ⟨33, _⟩ => ⟨S32x2048x256, .f32⟩
  | .hbm, ⟨34, _⟩ => ⟨S32x2048x256, .f32⟩
  | .hbm, ⟨35, _⟩ => ⟨S_, .f32⟩
  | .hbm, ⟨36, _⟩ => ⟨S32x2048, .f32⟩
  | .hbm, ⟨37, _⟩ => ⟨S32x2048x1, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S_, .f32⟩
  | .hbm, ⟨42, _⟩ => ⟨S32x2048x1, .f32⟩
  | .hbm, ⟨43, _⟩ => ⟨S32x2048x1, .f32⟩
  | .hbm, ⟨44, _⟩ => ⟨S32x2048x1, .f32⟩
  | .hbm, ⟨45, _⟩ => ⟨S32x2048x256, .f32⟩
  | .hbm, ⟨46, _⟩ => ⟨S32x2048x256, .f32⟩
  | .hbm, ⟨47, _⟩ => ⟨S1x1x256, .f32⟩
  | .hbm, ⟨48, _⟩ => ⟨S32x2048x256, .f32⟩
  | .hbm, ⟨49, _⟩ => ⟨S32x2048x256, .f32⟩
  | .hbm, ⟨50, _⟩ => ⟨S32x2048x512, .f32⟩
  | .hbm, ⟨51, _⟩ => ⟨S32x2048x2048, .f32⟩
  | .hbm, ⟨52, _⟩ => ⟨S32x2048x2048, .f32⟩
  | .hbm, ⟨53, _⟩ => ⟨S32x2048x8x256, .f32⟩
  | .hbm, ⟨54, _⟩ => ⟨S32x2048x8x128, .f32⟩
  | .hbm, ⟨55, _⟩ => ⟨S32x2048x1024, .f32⟩
  | .hbm, ⟨56, _⟩ => ⟨S32x1024x2048, .f32⟩
  | .hbm, ⟨57, _⟩ => ⟨S32x1024x2048, .bf16⟩
  | .hbm, ⟨58, _⟩ => ⟨S32x2048x512, .bf16⟩
  | .hbm, ⟨59, _⟩ => ⟨S32x2048x2048, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Proof.AttnSoft.lean ====
/- A softmax-weighted sum over the extended reals, where every score, value and shift is a real number. It does not
   depend on the shift, nor on whether the quotient by the sum of the weights is taken before the sum over the values
   or after, nor on the base of the exponential once the scores are scaled by its logarithm. -/
module

public import Idealize.ShloMosaic.Lib.Pointwise
public import Mathlib.Analysis.SpecialFunctions.Pow.Real

@[expose] public section

noncomputable section

namespace Cert.AttnSoft

open Idealize.ShloMosaic

variable {n : ℕ}

/-- The average of `v` under the weights `2 ^ s`. -/
def soft (s v : Fin n → ℝ) : ℝ := (∑ k, v k * Real.exp (s k * Real.log 2)) * (∑ k, Real.exp (s k * Real.log 2))⁻¹

/-- A sum of reals is a real. -/
theorem sum_coe (f : Fin n → ℝ) : ∑ k, (f k : EReal) = ((∑ k, f k : ℝ) : EReal) := by
  induction n with
  | zero => simp
  | succ n ih => rw [Fin.sum_univ_castSucc, Fin.sum_univ_castSucc, ih, EReal.coe_add]

/-- The largest of finitely many reals, started from the least extended real, is a real. -/
theorem fold_max_coe {ι : Type} (S : Finset ι) (hS : S.Nonempty) (f : ι → EReal) (hf : ∀ i, ∃ r : ℝ, f i = r) :
    ∃ M : ℝ, Finset.fold max (⊥ : EReal) f S = M := by
  classical
  have key : ∀ s : Finset ι, Finset.fold max (⊥ : EReal) f s = ⊥ ∨ ∃ M : ℝ, Finset.fold max (⊥ : EReal) f s = M := by
    intro s
    induction s using Finset.induction_on with
    | empty => exact .inl (by simp)
    | insert a s ha ih =>
      rw [Finset.fold_insert ha]
      obtain ⟨r, hr⟩ := hf a
      rcases ih with h | ⟨M, h⟩
      · exact .inr ⟨r, by rw [h, hr]; simp⟩
      · exact .inr ⟨max r M, by rw [h, hr]; exact (EReal.coe_strictMono.monotone.map_max).symm⟩
  refine (key S).resolve_left fun hb => ?_
  obtain ⟨a, ha⟩ := hS
  obtain ⟨r, hr⟩ := hf a
  have h : f a ≤ Finset.fold max (⊥ : EReal) f S := (Finset.le_fold_max _).2 (.inr ⟨a, ha, le_rfl⟩)
  rw [hb, hr] at h
  exact absurd (le_bot_iff.1 h) (EReal.coe_ne_bot _)

/-- So is the host's maximum along the last axis, at any index. -/
theorem reduce_max_coe {n0 n1 n2 n3 : ℕ} (h3 : 0 < n3) {t u : Shape} (x : (⟨4, ![n0, n1, n2, n3]⟩ : Shape).Idx → EReal) (hx : ∀ i, ∃ r : ℝ, x i = r)
    (init : u.Idx → EReal) (hi : ∀ i, init i = ⊥) (h : (⟨4, ![n0, n1, n2, n3]⟩ : Shape).ReducesTo [3] t) (hu : 0 < u.numel) (j : t.Idx) :
    ∃ M : ℝ, Host.reduce (FloatOps.maximumf : Ideal .f32 → Ideal .f32 → Ideal .f32) x init h hu j = M := by
  rw [Ideal.maximumf_eq_max, Host.reduce_eq_fold, hi]
  refine fold_max_coe _ ?_ x hx
  exact ⟨_, Finset.mem_filter.2 ⟨Finset.mem_univ _, (h.fiber_r4_a3 j _).2 ⟨⟨0, h3⟩, rfl⟩⟩⟩

theorem exp2_coe (r : ℝ) : Ideal.exp2 (r : EReal) = ((Real.exp (r * Real.log 2) : ℝ) : EReal) := by
  rw [Ideal.exp2_coe, mul_comm]
  exact congrArg _ (Real.rpow_def_of_pos (by norm_num) r)

/-- Quotients of reals by a positive real. -/
theorem div_coe (x y : ℝ) (hy : 0 < y) : Ideal.div (x : EReal) (y : EReal) = ((x * y⁻¹ : ℝ) : EReal) := by
  unfold Ideal.div
  rw [if_neg (by exact_mod_cast hy.ne'), ← EReal.coe_inv, ← EReal.coe_mul]

theorem exps_pos (s : Fin (n + 1) → ℝ) : 0 < ∑ k, Real.exp (s k) :=
  Finset.sum_pos (fun _ _ => Real.exp_pos _) ⟨0, Finset.mem_univ _⟩

/-- A shift of every score leaves the average as it is. -/
theorem soft_shift (s v : Fin (n + 1) → ℝ) (m : ℝ) :
    (∑ k, v k * Real.exp (s k * Real.log 2 - m)) * (∑ k, Real.exp (s k * Real.log 2 - m))⁻¹ = soft s v := by
  have h1 : ∀ k, Real.exp (s k * Real.log 2 - m) = Real.exp (s k * Real.log 2) * Real.exp (-m) := fun k => by
    rw [← Real.exp_add, sub_eq_add_neg]
  have h2 : ∀ k, v k * (Real.exp (s k * Real.log 2) * Real.exp (-m)) = v k * Real.exp (s k * Real.log 2) * Real.exp (-m) :=
    fun k => (mul_assoc _ _ _).symm
  simp only [h1, h2, ← Finset.sum_mul]
  unfold soft
  rw [mul_inv]
  have h' := Real.exp_pos (-m)
  rw [mul_mul_mul_comm, mul_inv_cancel₀ h'.ne', mul_one]

/-- The kernel's order: weights `2 ^ (s - m)`, the values weighted and summed, then multiplied by the reciprocal of the
    weights' sum. -/
theorem soft_of_exp2 (s v : Fin (n + 1) → ℝ) (m : ℝ) :
    (∑ k, (v k : EReal) * Ideal.exp2 ((s k : EReal) - m)) * Ideal.div 1 (∑ k, Ideal.exp2 ((s k : EReal) - m)) = (soft s v : EReal) := by
  have h : ∀ k, Ideal.exp2 ((s k : EReal) - m) = ((Real.exp (s k * Real.log 2 - m * Real.log 2) : ℝ) : EReal) := fun k => by
    rw [← EReal.coe_sub, exp2_coe, sub_mul]
  simp only [h, ← EReal.coe_mul, sum_coe]
  rw [show (1 : EReal) = ((1 : ℝ) : EReal) from rfl, div_coe _ _ (exps_pos _), one_mul, ← EReal.coe_mul, soft_shift]

/-- The reference's order: weights `e ^ (s · ln 2 - M)`, each divided by their sum, then the values weighted and summed. -/
theorem soft_of_exp (s v : Fin (n + 1) → ℝ) (M : ℝ) :
    (∑ k, (v k : EReal) * Ideal.div (Ideal.exp ((s k : EReal) * (Real.log 2 : ℝ) - M))
      (∑ k, Ideal.exp ((s k : EReal) * (Real.log 2 : ℝ) - M))) = (soft s v : EReal) := by
  have h : ∀ k, Ideal.exp ((s k : EReal) * (Real.log 2 : ℝ) - M) = ((Real.exp (s k * Real.log 2 - M) : ℝ) : EReal) := fun k => by
    rw [← EReal.coe_mul, ← EReal.coe_sub, Ideal.exp_coe]
  simp only [h, sum_coe]
  simp only [div_coe _ _ (exps_pos _), ← EReal.coe_mul, sum_coe]
  rw [← soft_shift s v M, Finset.sum_mul]
  simp only [mul_assoc]

/-- The extended reals the two programs' constants denote. -/
theorem neg_inf : Ideal.ofBits .f32 0xFF800000#32 = ⊥ := by
  show Ideal.ieee 8 23 0xFF800000#32 = ⊥
  unfold Ideal.ieee; simp

theorem pos_inf : Ideal.ofBits .f32 0x7F800000#32 = ⊤ := by
  show Ideal.ieee 8 23 0x7F800000#32 = ⊤
  unfold Ideal.ieee; simp

theorem two : Ideal.ofBits .f32 0x40000000#32 = ((2 : ℝ) : EReal) := by
  show Ideal.ieee 8 23 0x40000000#32 = _
  unfold Ideal.ieee; simp
  rw [← EReal.coe_mul]
  norm_num

theorem slack : ∃ r : ℝ, Ideal.ofBits .f32 0x3F820000#32 = r := by
  show ∃ r : ℝ, Ideal.ieee 8 23 0x3F820000#32 = r
  unfold Ideal.ieee; simp
  exact ⟨_, (EReal.coe_mul _ _).symm⟩

theorem log_two : Ideal.log ((2 : ℝ) : EReal) = ((Real.log 2 : ℝ) : EReal) := by
  show (if (2 : ℝ) ≤ 0 then (⊥ : EReal) else (Real.log 2 : EReal)) = _
  rw [if_neg (by norm_num)]

/-- The root of a real that is not negative is a real. -/
theorem sqrt_coe {r : ℝ} (h : 0 ≤ r) : Ideal.sqrt (r : EReal) = ((Real.sqrt r : ℝ) : EReal) := by
  show (if r < 0 then (⊥ : EReal) else (Real.sqrt r : EReal)) = _
  rw [if_neg (not_lt.2 h)]

/-- The attention: batch, query and channel `(b, r, c)`; head `c / 128` has 256 numbers per query and key. -/
def attnVal (q k : (⟨3, ![32, 2048, 2048]⟩ : Shape).Idx → ℝ) (v : (⟨3, ![32, 1024, 2048]⟩ : Shape).Idx → ℝ) (y : (⟨3, ![32, 2048, 1024]⟩ : Shape).Idx) : EReal :=
  (soft (fun x : Fin 2048 => ∑ e : Fin 256, k (ix3 (y 0) x ⟨256 * ((y 2).val / 128) + e.val, by have : (y 2).val < 1024 := (y 2).isLt; have := e.isLt; omega⟩)
      * q (ix3 (y 0) (y 1) ⟨256 * ((y 2).val / 128) + e.val, by have : (y 2).val < 1024 := (y 2).isLt; have := e.isLt; omega⟩))
    (fun x => v (ix3 (y 0) (y 2) x)) : EReal)

end Cert.AttnSoft

end
-- ==== Proof.AttnIdealStep.lean ====
/- The attention call's body, for any float values: what one launch step writes into its block of the output.
   A step handles two heads; it writes eight tiles (two heads by four blocks of 512 queries), each with a shift bounded
   by norms, and, when the smallest sum of weights is too small, writes all eight again with the shift the largest score. -/
module

public import proofs.«01_k».proof.Proof.Gen.AttnIdeal.Frame
public import proofs.«01_k».proof.Proof.Gen.AttnIdeal.Loops

@[expose] public section

set_option maxRecDepth 16384

noncomputable section

namespace Cert.AttnIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

/-! ## A tile -/

/-- The scores of one tile: keys by queries. -/
def scores (k : Vec F S1x2048x256 .bf16) (q : Vec F S1x512x256 .bf16) : FVec F S2048x512 .f32 :=
  matmul dot_S2048x256_S512x256_S2048x512_1_1_0_0_n_n none (shapeCast S2048x256 k shapeCasts_S1x2048x256_S2048x256)
    (shapeCast S512x256 q shapeCasts_S1x512x256_S512x256) (constant S2048x512 .f32 0x00000000#32)

/-- The weights of one tile under a shift of each query's scores. -/
def weights (s : FVec F S1x512 .f32) (k : Vec F S1x2048x256 .bf16) (q : Vec F S1x512x256 .bf16) : FVec F S2048x512 .f32 :=
  exp2 (subf (scores k q) (broadcastTo S2048x512 s broadcasts_S1x512_S2048x512))

/-- The sums of one tile's weights over the keys. -/
def sums (s : FVec F S1x512 .f32) (k : Vec F S1x2048x256 .bf16) (q : Vec F S1x512x256 .bf16) : FVec F S1x512 .f32 :=
  shapeCast S1x512 (multiReduction .add [0] S512 (weights s k q) 0x00000000#32 reduces_S2048x512_S512 (.inl rfl) rfl) shapeCasts_S512_S1x512

/-- What one tile stores, under a shift: the values weighted, divided by the sums of the weights, transposed. -/
def tile (s : FVec F S1x512 .f32) (k : Vec F S1x2048x256 .bf16) (q : Vec F S1x512x256 .bf16) (v : Vec F S1x128x2048 .bf16) : FVec F S1x512x128 .bf16 :=
  shapeCast S1x512x128 (truncf .bf16 (transpose S512x128 [1, 0]
    (mulf (matmul dot_S128x2048_S2048x512_S128x512_1_0_0_1_n_n none (shapeCast S128x2048 v shapeCasts_S1x128x2048_S128x2048)
        (truncf .bf16 (weights s k q) bitsLt_bf16_f32) (constant S128x512 .f32 0x00000000#32))
      (broadcastTo S128x512 (divf (broadcast S1x512 (Scalar.ofBits .f32 0x3F800000#32)) (sums s k q)) broadcasts_S1x512_S128x512))
    transposes_S128x512_p1_0_S512x128) bitsLt_bf16_f32) shapeCasts_S512x128_S1x512x128

/-- The shift bounded by norms: a query's norm times the largest key norm, with a little room. -/
def bound (ks : Vec F S1x1x1x2048 .f32) (qs : Vec F S1x1x1x512 .f32) : FVec F S1x512 .f32 :=
  mulf (sqrt (shapeCast S1x512 qs shapeCasts_S1x1x1x512_S1x512)) (broadcastTo S1x512 (k0_pay3 ks) broadcasts_S1x1_S1x512)

/-- The shift by the largest score. -/
def largest (k : Vec F S1x2048x256 .bf16) (q : Vec F S1x512x256 .bf16) : FVec F S1x512 .f32 :=
  shapeCast S1x512 (multiReduction .maximumf [0] S512 (scores k q) 0xFF800000#32 reduces_S2048x512_S512 (.inl rfl) rfl) shapeCasts_S512_S1x512

/-- The first pass's store: under the bounded shift. -/
def tileB (ks : Vec F S1x1x1x2048 .f32) (qs : Vec F S1x1x1x512 .f32) (k : Vec F S1x2048x256 .bf16) (q : Vec F S1x512x256 .bf16) (v : Vec F S1x128x2048 .bf16) : FVec F S1x512x128 .bf16 :=
  tile (bound ks qs) k q v

/-- The second pass's store: under the largest score. -/
def tileM (k : Vec F S1x2048x256 .bf16) (q : Vec F S1x512x256 .bf16) (v : Vec F S1x128x2048 .bf16) : FVec F S1x512x128 .bf16 :=
  tile (largest k q) k q v

/-! ## What a step writes -/

theorem store0 (ks : Vec F S1x1x1x2048 .f32) (qs : Vec F S1x1x1x512 .f32) (k : Vec F S1x2048x256 .bf16) (q : Vec F S1x512x256 .bf16) (v : Vec F S1x128x2048 .bf16) :
    k0_pay7 (k0_pay6 ks qs k q v) = tileB ks qs k q v := rfl

theorem store1 (ks : Vec F S1x1x1x2048 .f32) (qs : Vec F S1x1x1x512 .f32) (k : Vec F S1x2048x256 .bf16) (q : Vec F S1x512x256 .bf16) (v : Vec F S1x128x2048 .bf16) :
    k0_pay10 (k0_pay3 ks) qs k q v = tileB ks qs k q v := rfl

theorem store2 (ks : Vec F S1x1x1x2048 .f32) (qs : Vec F S1x1x1x512 .f32) (k : Vec F S1x2048x256 .bf16) (q : Vec F S1x512x256 .bf16) (v : Vec F S1x128x2048 .bf16) :
    k0_pay15 (k0_pay3 ks) (k0_pay12 qs) k q v = tileB ks qs k q v := rfl

theorem store3 (ks : Vec F S1x1x1x2048 .f32) (qs : Vec F S1x1x1x512 .f32) (k : Vec F S1x2048x256 .bf16) (q : Vec F S1x512x256 .bf16) (v : Vec F S1x128x2048 .bf16) :
    k0_pay21 (k0_pay17 (k0_pay3 ks) qs) (k0_pay18 k) q v = tileB ks qs k q v := rfl

theorem store4 (ks : Vec F S1x1x1x2048 .f32) (qs : Vec F S1x1x1x512 .f32) (k : Vec F S1x2048x256 .bf16) (q : Vec F S1x512x256 .bf16) (v : Vec F S1x128x2048 .bf16) :
    k0_pay26 (k0_pay23 (k0_pay3 ks) qs k q) (k0_pay24 (k0_pay3 ks) qs k q) v = tileB ks qs k q v := rfl

theorem store5 (ks : Vec F S1x1x1x2048 .f32) (qs : Vec F S1x1x1x512 .f32) (k : Vec F S1x2048x256 .bf16) (q : Vec F S1x512x256 .bf16) (v : Vec F S1x128x2048 .bf16) :
    k0_pay31 (k0_pay29 (k0_pay3 ks) qs k q) (k0_pay30 (k0_pay3 ks) qs k q v) (Scalar.ofBits .f32 0x3F800000#32) = tileB ks qs k q v := rfl

theorem store6 (ks : Vec F S1x1x1x2048 .f32) (qs : Vec F S1x1x1x512 .f32) (k : Vec F S1x2048x256 .bf16) (q : Vec F S1x512x256 .bf16) (v : Vec F S1x128x2048 .bf16) :
    k0_pay36 (k0_pay35 (k0_pay3 ks) qs k q v) = tileB ks qs k q v := rfl

theorem store7 (ks : Vec F S1x1x1x2048 .f32) (qs : Vec F S1x1x1x512 .f32) (k : Vec F S1x2048x256 .bf16) (q : Vec F S1x512x256 .bf16) (v : Vec F S1x128x2048 .bf16) :
    k0_pay39 (k0_pay3 ks) qs k q v = tileB ks qs k q v := rfl

/-- The first pass's eight stores, the last first. -/
def firstPass (x0 x1 : Vec F S1x2048x512 .bf16) (x2 : Vec F S1x256x2048 .bf16) (x3 x4 : Vec F S1x1x1x2048 .f32) : List (View.Piece (Elt F) S1x2048x256 .bf16) :=
  [⟨(Rect.unit (s := S1x2048x256) ![0, 1536, 128] S1x512x128.size inb_S1x2048x256_S1x512x128_0_1536_128), k0_pay39 (k0_pay3 (View.ld x4 (Rect.unit (s := S1x1x1x2048) ![0, 0, 0, 0] S1x1x1x2048.size inb_S1x1x1x2048_S1x1x1x2048_0_0_0_0))) (View.ld x3 (Rect.unit (s := S1x1x1x2048) ![0, 0, 0, 1536] S1x1x1x512.size inb_S1x1x1x2048_S1x1x1x512_0_0_0_1536)) (View.ld x1 (Rect.unit (s := S1x2048x512) ![0, 0, 256] S1x2048x256.size inb_S1x2048x512_S1x2048x256_0_0_256)) (View.ld x0 (Rect.unit (s := S1x2048x512) ![0, 1536, 256] S1x512x256.size inb_S1x2048x512_S1x512x256_0_1536_256)) (View.ld x2 (Rect.unit (s := S1x256x2048) ![0, 128, 0] S1x128x2048.size inb_S1x256x2048_S1x128x2048_0_128_0))⟩,
   ⟨(Rect.unit (s := S1x2048x256) ![0, 1024, 128] S1x512x128.size inb_S1x2048x256_S1x512x128_0_1024_128), k0_pay36 (k0_pay35 (k0_pay3 (View.ld x4 (Rect.unit (s := S1x1x1x2048) ![0, 0, 0, 0] S1x1x1x2048.size inb_S1x1x1x2048_S1x1x1x2048_0_0_0_0))) (View.ld x3 (Rect.unit (s := S1x1x1x2048) ![0, 0, 0, 1024] S1x1x1x512.size inb_S1x1x1x2048_S1x1x1x512_0_0_0_1024)) (View.ld x1 (Rect.unit (s := S1x2048x512) ![0, 0, 256] S1x2048x256.size inb_S1x2048x512_S1x2048x256_0_0_256)) (View.ld x0 (Rect.unit (s := S1x2048x512) ![0, 1024, 256] S1x512x256.size inb_S1x2048x512_S1x512x256_0_1024_256)) (View.ld x2 (Rect.unit (s := S1x256x2048) ![0, 128, 0] S1x128x2048.size inb_S1x256x2048_S1x128x2048_0_128_0)))⟩,
   ⟨(Rect.unit (s := S1x2048x256) ![0, 512, 128] S1x512x128.size inb_S1x2048x256_S1x512x128_0_512_128), k0_pay31 (k0_pay29 (k0_pay3 (View.ld x4 (Rect.unit (s := S1x1x1x2048) ![0, 0, 0, 0] S1x1x1x2048.size inb_S1x1x1x2048_S1x1x1x2048_0_0_0_0))) (View.ld x3 (Rect.unit (s := S1x1x1x2048) ![0, 0, 0, 512] S1x1x1x512.size inb_S1x1x1x2048_S1x1x1x512_0_0_0_512)) (View.ld x1 (Rect.unit (s := S1x2048x512) ![0, 0, 256] S1x2048x256.size inb_S1x2048x512_S1x2048x256_0_0_256)) (View.ld x0 (Rect.unit (s := S1x2048x512) ![0, 512, 256] S1x512x256.size inb_S1x2048x512_S1x512x256_0_512_256))) (k0_pay30 (k0_pay3 (View.ld x4 (Rect.unit (s := S1x1x1x2048) ![0, 0, 0, 0] S1x1x1x2048.size inb_S1x1x1x2048_S1x1x1x2048_0_0_0_0))) (View.ld x3 (Rect.unit (s := S1x1x1x2048) ![0, 0, 0, 512] S1x1x1x512.size inb_S1x1x1x2048_S1x1x1x512_0_0_0_512)) (View.ld x1 (Rect.unit (s := S1x2048x512) ![0, 0, 256] S1x2048x256.size inb_S1x2048x512_S1x2048x256_0_0_256)) (View.ld x0 (Rect.unit (s := S1x2048x512) ![0, 512, 256] S1x512x256.size inb_S1x2048x512_S1x512x256_0_512_256)) (View.ld x2 (Rect.unit (s := S1x256x2048) ![0, 128, 0] S1x128x2048.size inb_S1x256x2048_S1x128x2048_0_128_0))) (Scalar.ofBits .f32 0x3F800000#32)⟩,
   ⟨(Rect.unit (s := S1x2048x256) ![0, 0, 128] S1x512x128.size inb_S1x2048x256_S1x512x128_0_0_128), k0_pay26 (k0_pay23 (k0_pay3 (View.ld x4 (Rect.unit (s := S1x1x1x2048) ![0, 0, 0, 0] S1x1x1x2048.size inb_S1x1x1x2048_S1x1x1x2048_0_0_0_0))) (View.ld x3 (Rect.unit (s := S1x1x1x2048) ![0, 0, 0, 0] S1x1x1x512.size inb_S1x1x1x2048_S1x1x1x512_0_0_0_0)) (View.ld x1 (Rect.unit (s := S1x2048x512) ![0, 0, 256] S1x2048x256.size inb_S1x2048x512_S1x2048x256_0_0_256)) (View.ld x0 (Rect.unit (s := S1x2048x512) ![0, 0, 256] S1x512x256.size inb_S1x2048x512_S1x512x256_0_0_256))) (k0_pay24 (k0_pay3 (View.ld x4 (Rect.unit (s := S1x1x1x2048) ![0, 0, 0, 0] S1x1x1x2048.size inb_S1x1x1x2048_S1x1x1x2048_0_0_0_0))) (View.ld x3 (Rect.unit (s := S1x1x1x2048) ![0, 0, 0, 0] S1x1x1x512.size inb_S1x1x1x2048_S1x1x1x512_0_0_0_0)) (View.ld x1 (Rect.unit (s := S1x2048x512) ![0, 0, 256] S1x2048x256.size inb_S1x2048x512_S1x2048x256_0_0_256)) (View.ld x0 (Rect.unit (s := S1x2048x512) ![0, 0, 256] S1x512x256.size inb_S1x2048x512_S1x512x256_0_0_256))) (View.ld x2 (Rect.unit (s := S1x256x2048) ![0, 128, 0] S1x128x2048.size inb_S1x256x2048_S1x128x2048_0_128_0))⟩,
   ⟨(Rect.unit (s := S1x2048x256) ![0, 1536, 0] S1x512x128.size inb_S1x2048x256_S1x512x128_0_1536_0), k0_pay21 (k0_pay17 (k0_pay3 (View.ld x4 (Rect.unit (s := S1x1x1x2048) ![0, 0, 0, 0] S1x1x1x2048.size inb_S1x1x1x2048_S1x1x1x2048_0_0_0_0))) (View.ld x3 (Rect.unit (s := S1x1x1x2048) ![0, 0, 0, 1536] S1x1x1x512.size inb_S1x1x1x2048_S1x1x1x512_0_0_0_1536))) (k0_pay18 (View.ld x1 (Rect.unit (s := S1x2048x512) ![0, 0, 0] S1x2048x256.size inb_S1x2048x512_S1x2048x256_0_0_0))) (View.ld x0 (Rect.unit (s := S1x2048x512) ![0, 1536, 0] S1x512x256.size inb_S1x2048x512_S1x512x256_0_1536_0)) (View.ld x2 (Rect.unit (s := S1x256x2048) ![0, 0, 0] S1x128x2048.size inb_S1x256x2048_S1x128x2048_0_0_0))⟩,
   ⟨(Rect.unit (s := S1x2048x256) ![0, 1024, 0] S1x512x128.size inb_S1x2048x256_S1x512x128_0_1024_0), k0_pay15 (k0_pay3 (View.ld x4 (Rect.unit (s := S1x1x1x2048) ![0, 0, 0, 0] S1x1x1x2048.size inb_S1x1x1x2048_S1x1x1x2048_0_0_0_0))) (k0_pay12 (View.ld x3 (Rect.unit (s := S1x1x1x2048) ![0, 0, 0, 1024] S1x1x1x512.size inb_S1x1x1x2048_S1x1x1x512_0_0_0_1024))) (View.ld x1 (Rect.unit (s := S1x2048x512) ![0, 0, 0] S1x2048x256.size inb_S1x2048x512_S1x2048x256_0_0_0)) (View.ld x0 (Rect.unit (s := S1x2048x512) ![0, 1024, 0] S1x512x256.size inb_S1x2048x512_S1x512x256_0_1024_0)) (View.ld x2 (Rect.unit (s := S1x256x2048) ![0, 0, 0] S1x128x2048.size inb_S1x256x2048_S1x128x2048_0_0_0))⟩,
   ⟨(Rect.unit (s := S1x2048x256) ![0, 512, 0] S1x512x128.size inb_S1x2048x256_S1x512x128_0_512_0), k0_pay10 (k0_pay3 (View.ld x4 (Rect.unit (s := S1x1x1x2048) ![0, 0, 0, 0] S1x1x1x2048.size inb_S1x1x1x2048_S1x1x1x2048_0_0_0_0))) (View.ld x3 (Rect.unit (s := S1x1x1x2048) ![0, 0, 0, 512] S1x1x1x512.size inb_S1x1x1x2048_S1x1x1x512_0_0_0_512)) (View.ld x1 (Rect.unit (s := S1x2048x512) ![0, 0, 0] S1x2048x256.size inb_S1x2048x512_S1x2048x256_0_0_0)) (View.ld x0 (Rect.unit (s := S1x2048x512) ![0, 512, 0] S1x512x256.size inb_S1x2048x512_S1x512x256_0_512_0)) (View.ld x2 (Rect.unit (s := S1x256x2048) ![0, 0, 0] S1x128x2048.size inb_S1x256x2048_S1x128x2048_0_0_0))⟩,
   ⟨(Rect.unit (s := S1x2048x256) ![0, 0, 0] S1x512x128.size inb_S1x2048x256_S1x512x128_0_0_0), k0_pay7 (k0_pay6 (View.ld x4 (Rect.unit (s := S1x1x1x2048) ![0, 0, 0, 0] S1x1x1x2048.size inb_S1x1x1x2048_S1x1x1x2048_0_0_0_0)) (View.ld x3 (Rect.unit (s := S1x1x1x2048) ![0, 0, 0, 0] S1x1x1x512.size inb_S1x1x1x2048_S1x1x1x512_0_0_0_0)) (View.ld x1 (Rect.unit (s := S1x2048x512) ![0, 0, 0] S1x2048x256.size inb_S1x2048x512_S1x2048x256_0_0_0)) (View.ld x0 (Rect.unit (s := S1x2048x512) ![0, 0, 0] S1x512x256.size inb_S1x2048x512_S1x512x256_0_0_0)) (View.ld x2 (Rect.unit (s := S1x256x2048) ![0, 0, 0] S1x128x2048.size inb_S1x256x2048_S1x128x2048_0_0_0)))⟩]

/-- They are the eight tiles under the bounded shift. -/
theorem firstPass_eq (x0 x1 : Vec F S1x2048x512 .bf16) (x2 : Vec F S1x256x2048 .bf16) (x3 x4 : Vec F S1x1x1x2048 .f32) : firstPass x0 x1 x2 x3 x4 =
  [⟨(Rect.unit (s := S1x2048x256) ![0, 1536, 128] S1x512x128.size inb_S1x2048x256_S1x512x128_0_1536_128), tileB (View.ld x4 (Rect.unit (s := S1x1x1x2048) ![0, 0, 0, 0] S1x1x1x2048.size inb_S1x1x1x2048_S1x1x1x2048_0_0_0_0)) (View.ld x3 (Rect.unit (s := S1x1x1x2048) ![0, 0, 0, 1536] S1x1x1x512.size inb_S1x1x1x2048_S1x1x1x512_0_0_0_1536)) (View.ld x1 (Rect.unit (s := S1x2048x512) ![0, 0, 256] S1x2048x256.size inb_S1x2048x512_S1x2048x256_0_0_256)) (View.ld x0 (Rect.unit (s := S1x2048x512) ![0, 1536, 256] S1x512x256.size inb_S1x2048x512_S1x512x256_0_1536_256)) (View.ld x2 (Rect.unit (s := S1x256x2048) ![0, 128, 0] S1x128x2048.size inb_S1x256x2048_S1x128x2048_0_128_0))⟩,
   ⟨(Rect.unit (s := S1x2048x256) ![0, 1024, 128] S1x512x128.size inb_S1x2048x256_S1x512x128_0_1024_128), tileB (View.ld x4 (Rect.unit (s := S1x1x1x2048) ![0, 0, 0, 0] S1x1x1x2048.size inb_S1x1x1x2048_S1x1x1x2048_0_0_0_0)) (View.ld x3 (Rect.unit (s := S1x1x1x2048) ![0, 0, 0, 1024] S1x1x1x512.size inb_S1x1x1x2048_S1x1x1x512_0_0_0_1024)) (View.ld x1 (Rect.unit (s := S1x2048x512) ![0, 0, 256] S1x2048x256.size inb_S1x2048x512_S1x2048x256_0_0_256)) (View.ld x0 (Rect.unit (s := S1x2048x512) ![0, 1024, 256] S1x512x256.size inb_S1x2048x512_S1x512x256_0_1024_256)) (View.ld x2 (Rect.unit (s := S1x256x2048) ![0, 128, 0] S1x128x2048.size inb_S1x256x2048_S1x128x2048_0_128_0))⟩,
   ⟨(Rect.unit (s := S1x2048x256) ![0, 512, 128] S1x512x128.size inb_S1x2048x256_S1x512x128_0_512_128), tileB (View.ld x4 (Rect.unit (s := S1x1x1x2048) ![0, 0, 0, 0] S1x1x1x2048.size inb_S1x1x1x2048_S1x1x1x2048_0_0_0_0)) (View.ld x3 (Rect.unit (s := S1x1x1x2048) ![0, 0, 0, 512] S1x1x1x512.size inb_S1x1x1x2048_S1x1x1x512_0_0_0_512)) (View.ld x1 (Rect.unit (s := S1x2048x512) ![0, 0, 256] S1x2048x256.size inb_S1x2048x512_S1x2048x256_0_0_256)) (View.ld x0 (Rect.unit (s := S1x2048x512) ![0, 512, 256] S1x512x256.size inb_S1x2048x512_S1x512x256_0_512_256)) (View.ld x2 (Rect.unit (s := S1x256x2048) ![0, 128, 0] S1x128x2048.size inb_S1x256x2048_S1x128x2048_0_128_0))⟩,
   ⟨(Rect.unit (s := S1x2048x256) ![0, 0, 128] S1x512x128.size inb_S1x2048x256_S1x512x128_0_0_128), tileB (View.ld x4 (Rect.unit (s := S1x1x1x2048) ![0, 0, 0, 0] S1x1x1x2048.size inb_S1x1x1x2048_S1x1x1x2048_0_0_0_0)) (View.ld x3 (Rect.unit (s := S1x1x1x2048) ![0, 0, 0, 0] S1x1x1x512.size inb_S1x1x1x2048_S1x1x1x512_0_0_0_0)) (View.ld x1 (Rect.unit (s := S1x2048x512) ![0, 0, 256] S1x2048x256.size inb_S1x2048x512_S1x2048x256_0_0_256)) (View.ld x0 (Rect.unit (s := S1x2048x512) ![0, 0, 256] S1x512x256.size inb_S1x2048x512_S1x512x256_0_0_256)) (View.ld x2 (Rect.unit (s := S1x256x2048) ![0, 128, 0] S1x128x2048.size inb_S1x256x2048_S1x128x2048_0_128_0))⟩,
   ⟨(Rect.unit (s := S1x2048x256) ![0, 1536, 0] S1x512x128.size inb_S1x2048x256_S1x512x128_0_1536_0), tileB (View.ld x4 (Rect.unit (s := S1x1x1x2048) ![0, 0, 0, 0] S1x1x1x2048.size inb_S1x1x1x2048_S1x1x1x2048_0_0_0_0)) (View.ld x3 (Rect.unit (s := S1x1x1x2048) ![0, 0, 0, 1536] S1x1x1x512.size inb_S1x1x1x2048_S1x1x1x512_0_0_0_1536)) (View.ld x1 (Rect.unit (s := S1x2048x512) ![0, 0, 0] S1x2048x256.size inb_S1x2048x512_S1x2048x256_0_0_0)) (View.ld x0 (Rect.unit (s := S1x2048x512) ![0, 1536, 0] S1x512x256.size inb_S1x2048x512_S1x512x256_0_1536_0)) (View.ld x2 (Rect.unit (s := S1x256x2048) ![0, 0, 0] S1x128x2048.size inb_S1x256x2048_S1x128x2048_0_0_0))⟩,
   ⟨(Rect.unit (s := S1x2048x256) ![0, 1024, 0] S1x512x128.size inb_S1x2048x256_S1x512x128_0_1024_0), tileB (View.ld x4 (Rect.unit (s := S1x1x1x2048) ![0, 0, 0, 0] S1x1x1x2048.size inb_S1x1x1x2048_S1x1x1x2048_0_0_0_0)) (View.ld x3 (Rect.unit (s := S1x1x1x2048) ![0, 0, 0, 1024] S1x1x1x512.size inb_S1x1x1x2048_S1x1x1x512_0_0_0_1024)) (View.ld x1 (Rect.unit (s := S1x2048x512) ![0, 0, 0] S1x2048x256.size inb_S1x2048x512_S1x2048x256_0_0_0)) (View.ld x0 (Rect.unit (s := S1x2048x512) ![0, 1024, 0] S1x512x256.size inb_S1x2048x512_S1x512x256_0_1024_0)) (View.ld x2 (Rect.unit (s := S1x256x2048) ![0, 0, 0] S1x128x2048.size inb_S1x256x2048_S1x128x2048_0_0_0))⟩,
   ⟨(Rect.unit (s := S1x2048x256) ![0, 512, 0] S1x512x128.size inb_S1x2048x256_S1x512x128_0_512_0), tileB (View.ld x4 (Rect.unit (s := S1x1x1x2048) ![0, 0, 0, 0] S1x1x1x2048.size inb_S1x1x1x2048_S1x1x1x2048_0_0_0_0)) (View.ld x3 (Rect.unit (s := S1x1x1x2048) ![0, 0, 0, 512] S1x1x1x512.size inb_S1x1x1x2048_S1x1x1x512_0_0_0_512)) (View.ld x1 (Rect.unit (s := S1x2048x512) ![0, 0, 0] S1x2048x256.size inb_S1x2048x512_S1x2048x256_0_0_0)) (View.ld x0 (Rect.unit (s := S1x2048x512) ![0, 512, 0] S1x512x256.size inb_S1x2048x512_S1x512x256_0_512_0)) (View.ld x2 (Rect.unit (s := S1x256x2048) ![0, 0, 0] S1x128x2048.size inb_S1x256x2048_S1x128x2048_0_0_0))⟩,
   ⟨(Rect.unit (s := S1x2048x256) ![0, 0, 0] S1x512x128.size inb_S1x2048x256_S1x512x128_0_0_0), tileB (View.ld x4 (Rect.unit (s := S1x1x1x2048) ![0, 0, 0, 0] S1x1x1x2048.size inb_S1x1x1x2048_S1x1x1x2048_0_0_0_0)) (View.ld x3 (Rect.unit (s := S1x1x1x2048) ![0, 0, 0, 0] S1x1x1x512.size inb_S1x1x1x2048_S1x1x1x512_0_0_0_0)) (View.ld x1 (Rect.unit (s := S1x2048x512) ![0, 0, 0] S1x2048x256.size inb_S1x2048x512_S1x2048x256_0_0_0)) (View.ld x0 (Rect.unit (s := S1x2048x512) ![0, 0, 0] S1x512x256.size inb_S1x2048x512_S1x512x256_0_0_0)) (View.ld x2 (Rect.unit (s := S1x256x2048) ![0, 0, 0] S1x128x2048.size inb_S1x256x2048_S1x128x2048_0_0_0))⟩] := by
  unfold firstPass
  rw [store0, store1, store2, store3, store4, store5, store6, store7]

/-- The smallest sum of weights met in the first pass, per place in a tile. -/
def leastSums (x0 x1 : Vec F S1x2048x512 .bf16) (x3 x4 : Vec F S1x1x1x2048 .f32) : FVec F S1x512 .f32 :=
  (minimumf (minimumf (minimumf (minimumf (minimumf (minimumf (minimumf (sums (bound (View.ld x4 (Rect.unit (s := S1x1x1x2048) ![0, 0, 0, 0] S1x1x1x2048.size inb_S1x1x1x2048_S1x1x1x2048_0_0_0_0)) (View.ld x3 (Rect.unit (s := S1x1x1x2048) ![0, 0, 0, 0] S1x1x1x512.size inb_S1x1x1x2048_S1x1x1x512_0_0_0_0))) (View.ld x1 (Rect.unit (s := S1x2048x512) ![0, 0, 0] S1x2048x256.size inb_S1x2048x512_S1x2048x256_0_0_0)) (View.ld x0 (Rect.unit (s := S1x2048x512) ![0, 0, 0] S1x512x256.size inb_S1x2048x512_S1x512x256_0_0_0)))
    (sums (bound (View.ld x4 (Rect.unit (s := S1x1x1x2048) ![0, 0, 0, 0] S1x1x1x2048.size inb_S1x1x1x2048_S1x1x1x2048_0_0_0_0)) (View.ld x3 (Rect.unit (s := S1x1x1x2048) ![0, 0, 0, 512] S1x1x1x512.size inb_S1x1x1x2048_S1x1x1x512_0_0_0_512))) (View.ld x1 (Rect.unit (s := S1x2048x512) ![0, 0, 0] S1x2048x256.size inb_S1x2048x512_S1x2048x256_0_0_0)) (View.ld x0 (Rect.unit (s := S1x2048x512) ![0, 512, 0] S1x512x256.size inb_S1x2048x512_S1x512x256_0_512_0))))
    (sums (bound (View.ld x4 (Rect.unit (s := S1x1x1x2048) ![0, 0, 0, 0] S1x1x1x2048.size inb_S1x1x1x2048_S1x1x1x2048_0_0_0_0)) (View.ld x3 (Rect.unit (s := S1x1x1x2048) ![0, 0, 0, 1024] S1x1x1x512.size inb_S1x1x1x2048_S1x1x1x512_0_0_0_1024))) (View.ld x1 (Rect.unit (s := S1x2048x512) ![0, 0, 0] S1x2048x256.size inb_S1x2048x512_S1x2048x256_0_0_0)) (View.ld x0 (Rect.unit (s := S1x2048x512) ![0, 1024, 0] S1x512x256.size inb_S1x2048x512_S1x512x256_0_1024_0))))
    (sums (bound (View.ld x4 (Rect.unit (s := S1x1x1x2048) ![0, 0, 0, 0] S1x1x1x2048.size inb_S1x1x1x2048_S1x1x1x2048_0_0_0_0)) (View.ld x3 (Rect.unit (s := S1x1x1x2048) ![0, 0, 0, 1536] S1x1x1x512.size inb_S1x1x1x2048_S1x1x1x512_0_0_0_1536))) (View.ld x1 (Rect.unit (s := S1x2048x512) ![0, 0, 0] S1x2048x256.size inb_S1x2048x512_S1x2048x256_0_0_0)) (View.ld x0 (Rect.unit (s := S1x2048x512) ![0, 1536, 0] S1x512x256.size inb_S1x2048x512_S1x512x256_0_1536_0))))
    (sums (bound (View.ld x4 (Rect.unit (s := S1x1x1x2048) ![0, 0, 0, 0] S1x1x1x2048.size inb_S1x1x1x2048_S1x1x1x2048_0_0_0_0)) (View.ld x3 (Rect.unit (s := S1x1x1x2048) ![0, 0, 0, 0] S1x1x1x512.size inb_S1x1x1x2048_S1x1x1x512_0_0_0_0))) (View.ld x1 (Rect.unit (s := S1x2048x512) ![0, 0, 256] S1x2048x256.size inb_S1x2048x512_S1x2048x256_0_0_256)) (View.ld x0 (Rect.unit (s := S1x2048x512) ![0, 0, 256] S1x512x256.size inb_S1x2048x512_S1x512x256_0_0_256))))
    (sums (bound (View.ld x4 (Rect.unit (s := S1x1x1x2048) ![0, 0, 0, 0] S1x1x1x2048.size inb_S1x1x1x2048_S1x1x1x2048_0_0_0_0)) (View.ld x3 (Rect.unit (s := S1x1x1x2048) ![0, 0, 0, 512] S1x1x1x512.size inb_S1x1x1x2048_S1x1x1x512_0_0_0_512))) (View.ld x1 (Rect.unit (s := S1x2048x512) ![0, 0, 256] S1x2048x256.size inb_S1x2048x512_S1x2048x256_0_0_256)) (View.ld x0 (Rect.unit (s := S1x2048x512) ![0, 512, 256] S1x512x256.size inb_S1x2048x512_S1x512x256_0_512_256))))
    (sums (bound (View.ld x4 (Rect.unit (s := S1x1x1x2048) ![0, 0, 0, 0] S1x1x1x2048.size inb_S1x1x1x2048_S1x1x1x2048_0_0_0_0)) (View.ld x3 (Rect.unit (s := S1x1x1x2048) ![0, 0, 0, 1024] S1x1x1x512.size inb_S1x1x1x2048_S1x1x1x512_0_0_0_1024))) (View.ld x1 (Rect.unit (s := S1x2048x512) ![0, 0, 256] S1x2048x256.size inb_S1x2048x512_S1x2048x256_0_0_256)) (View.ld x0 (Rect.unit (s := S1x2048x512) ![0, 1024, 256] S1x512x256.size inb_S1x2048x512_S1x512x256_0_1024_256))))
    (sums (bound (View.ld x4 (Rect.unit (s := S1x1x1x2048) ![0, 0, 0, 0] S1x1x1x2048.size inb_S1x1x1x2048_S1x1x1x2048_0_0_0_0)) (View.ld x3 (Rect.unit (s := S1x1x1x2048) ![0, 0, 0, 1536] S1x1x1x512.size inb_S1x1x1x2048_S1x1x1x512_0_0_0_1536))) (View.ld x1 (Rect.unit (s := S1x2048x512) ![0, 0, 256] S1x2048x256.size inb_S1x2048x512_S1x2048x256_0_0_256)) (View.ld x0 (Rect.unit (s := S1x2048x512) ![0, 1536, 256] S1x512x256.size inb_S1x2048x512_S1x512x256_0_1536_256))))

/-- Whether the second pass is taken. -/
def Again (x0 x1 : Vec F S1x2048x512 .bf16) (x3 x4 : Vec F S1x1x1x2048 .f32) : Prop :=
  Scalar.cmpi .ne (Scalar.extui (Scalar.xori (Scalar.cmpf .oge (extractAt ![0, 0, 0] (shapeCast S1x1x1 (multiReduction .minimumf [1, 2] S1 (shapeCast S1x1x512 (leastSums x0 x1 x3 x4) shapeCasts_S1x512_S1x1x512) 0x7F800000#32 reduces_S1x1x512_S1 (.inl rfl) rfl) shapeCasts_S1_S1x1x1) inpos_S1x1x1_p0_0_0)
    (Scalar.ofBits .f32 0x1F800000#32)) 1#1)) 0#32 = 1#1

/-- Trip `k` of the second pass's loop over the first head's tiles. -/
def piece1 (x0 x1 : Vec F S1x2048x512 .bf16) (x2 : Vec F S1x256x2048 .bf16) (k : Fin k0_t1_loop.trips) : View.Piece (Elt F) S1x2048x256 .bf16 :=
  ⟨Rect.unit (s := S1x2048x256) (k0_off2 k) S1x512x128.size (k0_off2_inb k), tileM (View.ld x1 (Rect.unit (s := S1x2048x512) ![0, 0, 0] S1x2048x256.size inb_S1x2048x512_S1x2048x256_0_0_0)) (View.ld x0 (Rect.unit (s := S1x2048x512) (k0_off1 k) S1x512x256.size (k0_off1_inb k))) (View.ld x2 (Rect.unit (s := S1x256x2048) ![0, 0, 0] S1x128x2048.size inb_S1x256x2048_S1x128x2048_0_0_0))⟩

/-- Trip `k` of the second pass's loop over the second head's tiles. -/
def piece2 (x0 x1 : Vec F S1x2048x512 .bf16) (x2 : Vec F S1x256x2048 .bf16) (k : Fin k0_t2_loop.trips) : View.Piece (Elt F) S1x2048x256 .bf16 :=
  ⟨Rect.unit (s := S1x2048x256) (k0_off4 k) S1x512x128.size (k0_off4_inb k), tileM (View.ld x1 (Rect.unit (s := S1x2048x512) ![0, 0, 256] S1x2048x256.size inb_S1x2048x512_S1x2048x256_0_0_256)) (View.ld x0 (Rect.unit (s := S1x2048x512) (k0_off3 k) S1x512x256.size (k0_off3_inb k))) (View.ld x2 (Rect.unit (s := S1x256x2048) ![0, 128, 0] S1x128x2048.size inb_S1x256x2048_S1x128x2048_0_128_0))⟩

/-- The pieces of the trips before `n`, the last first. -/
def before {N : ℕ} (p : Fin N → View.Piece (Elt F) S1x2048x256 .bf16) : ℕ → List (View.Piece (Elt F) S1x2048x256 .bf16)
  | 0 => []
  | n + 1 => if h : n < N then p ⟨n, h⟩ :: before p n else before p n

open Classical in
/-- Every store of a step, the last first. -/
def stores (x0 x1 : Vec F S1x2048x512 .bf16) (x2 : Vec F S1x256x2048 .bf16) (x3 x4 : Vec F S1x1x1x2048 .f32) : List (View.Piece (Elt F) S1x2048x256 .bf16) :=
  if Again x0 x1 x3 x4 then before (piece2 x0 x1 x2) k0_t2_loop.trips ++ (before (piece1 x0 x1 x2) k0_t1_loop.trips ++ firstPass x0 x1 x2 x3 x4)
  else firstPass x0 x1 x2 x3 x4

/-- What the output's block holds after a step. -/
def out (x0 x1 : Vec F S1x2048x512 .bf16) (x2 : Vec F S1x256x2048 .bf16) (x3 x4 : Vec F S1x1x1x2048 .f32) : Vec F S1x2048x256 .bf16 := View.canon (stores x0 x1 x2 x3 x4)

/-- Eight stores at the eight tiles cover the block. -/
theorem cover8 (p0 p1 p2 p3 p4 p5 p6 p7 : Vec F S1x512x128 .bf16) (y : S1x2048x256.Idx) :
    ∃ pc ∈ ([⟨(Rect.unit (s := S1x2048x256) ![0, 1536, 128] S1x512x128.size inb_S1x2048x256_S1x512x128_0_1536_128), p7⟩, ⟨(Rect.unit (s := S1x2048x256) ![0, 1024, 128] S1x512x128.size inb_S1x2048x256_S1x512x128_0_1024_128), p6⟩, ⟨(Rect.unit (s := S1x2048x256) ![0, 512, 128] S1x512x128.size inb_S1x2048x256_S1x512x128_0_512_128), p5⟩, ⟨(Rect.unit (s := S1x2048x256) ![0, 0, 128] S1x512x128.size inb_S1x2048x256_S1x512x128_0_0_128), p4⟩, ⟨(Rect.unit (s := S1x2048x256) ![0, 1536, 0] S1x512x128.size inb_S1x2048x256_S1x512x128_0_1536_0), p3⟩, ⟨(Rect.unit (s := S1x2048x256) ![0, 1024, 0] S1x512x128.size inb_S1x2048x256_S1x512x128_0_1024_0), p2⟩, ⟨(Rect.unit (s := S1x2048x256) ![0, 512, 0] S1x512x128.size inb_S1x2048x256_S1x512x128_0_512_0), p1⟩, ⟨(Rect.unit (s := S1x2048x256) ![0, 0, 0] S1x512x128.size inb_S1x2048x256_S1x512x128_0_0_0), p0⟩] : List (View.Piece (Elt F) S1x2048x256 .bf16)), y ∈ pc.1.set :=
  View.cover_of_tiled [⟨(Rect.unit (s := S1x2048x256) ![0, 1536, 128] S1x512x128.size inb_S1x2048x256_S1x512x128_0_1536_128), p7⟩, ⟨(Rect.unit (s := S1x2048x256) ![0, 1024, 128] S1x512x128.size inb_S1x2048x256_S1x512x128_0_1024_128), p6⟩, ⟨(Rect.unit (s := S1x2048x256) ![0, 512, 128] S1x512x128.size inb_S1x2048x256_S1x512x128_0_512_128), p5⟩, ⟨(Rect.unit (s := S1x2048x256) ![0, 0, 128] S1x512x128.size inb_S1x2048x256_S1x512x128_0_0_128), p4⟩, ⟨(Rect.unit (s := S1x2048x256) ![0, 1536, 0] S1x512x128.size inb_S1x2048x256_S1x512x128_0_1536_0), p3⟩, ⟨(Rect.unit (s := S1x2048x256) ![0, 1024, 0] S1x512x128.size inb_S1x2048x256_S1x512x128_0_1024_0), p2⟩, ⟨(Rect.unit (s := S1x2048x256) ![0, 512, 0] S1x512x128.size inb_S1x2048x256_S1x512x128_0_512_0), p1⟩, ⟨(Rect.unit (s := S1x2048x256) ![0, 0, 0] S1x512x128.size inb_S1x2048x256_S1x512x128_0_0_0), p0⟩] S1x512x128.size (by rfl) y

theorem cover_firstPass (x0 x1 : Vec F S1x2048x512 .bf16) (x2 : Vec F S1x256x2048 .bf16) (x3 x4 : Vec F S1x1x1x2048 .f32) (y : S1x2048x256.Idx) : ∃ pc ∈ firstPass x0 x1 x2 x3 x4, y ∈ pc.1.set :=
  cover8 _ _ _ _ _ _ _ _ y

theorem cover_stores (x0 x1 : Vec F S1x2048x512 .bf16) (x2 : Vec F S1x256x2048 .bf16) (x3 x4 : Vec F S1x1x1x2048 .f32) (y : S1x2048x256.Idx) : ∃ pc ∈ stores x0 x1 x2 x3 x4, y ∈ pc.1.set := by
  obtain ⟨pc, hpc, hy⟩ := cover_firstPass x0 x1 x2 x3 x4 y
  refine ⟨pc, ?_, hy⟩
  unfold stores
  split
  · exact List.mem_append_right _ (List.mem_append_right _ hpc)
  · exact hpc

/-! ## The second pass's loops -/

/-- A trip of loop 1 writes its one piece. -/
theorem trip1 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x256x2048 .bf16) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x2048x256 .bf16) (harg7 : arg7.IsWhole) (f0 : BufTy.Contents (Elt F) arg2.view.ty) (f1 : BufTy.Contents (Elt F) arg3.view.ty) (f2 : BufTy.Contents (Elt F) arg4.view.ty) (k : Fin k0_t1_loop.trips) :
    tripL_k0_t1 (F := F) Variants.none c none i arg2 harg2 arg3 harg3 arg4 harg4 arg5 harg5 arg6 harg6 arg7 harg7 f0 f1 f2 k = [piece1 (arg2.view.read (Elt F) f0) (arg3.view.read (Elt F) f1) (arg4.view.read (Elt F) f2) k] := by
  unfold tripL_k0_t1 trip_k0_t1
  rfl

/-- The trips before `n` of loop 1. -/
theorem trips1 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x256x2048 .bf16) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x2048x256 .bf16) (harg7 : arg7.IsWhole) (f0 : BufTy.Contents (Elt F) arg2.view.ty) (f1 : BufTy.Contents (Elt F) arg3.view.ty) (f2 : BufTy.Contents (Elt F) arg4.view.ty) (n : ℕ) (hn : n ≤ k0_t1_loop.trips) :
    pb_k0_t1 (F := F) Variants.none c none i arg2 harg2 arg3 harg3 arg4 harg4 arg5 harg5 arg6 harg6 arg7 harg7 f0 f1 f2 n = before (piece1 (arg2.view.read (Elt F) f0) (arg3.view.read (Elt F) f1) (arg4.view.read (Elt F) f2)) n := by
  induction n with
  | zero => rfl
  | succ n ih =>
    rw [pb_k0_t1_succ Variants.none c none i arg2 harg2 arg3 harg3 arg4 harg4 arg5 harg5 arg6 harg6 arg7 harg7 f0 f1 f2 ⟨n, hn⟩, trip1, ih (Nat.le_of_succ_le hn), before, dif_pos (show n < k0_t1_loop.trips from hn)]
    rfl

/-- A trip of loop 2 writes its one piece. -/
theorem trip2 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x256x2048 .bf16) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x2048x256 .bf16) (harg7 : arg7.IsWhole) (f0 : BufTy.Contents (Elt F) arg2.view.ty) (f1 : BufTy.Contents (Elt F) arg3.view.ty) (f2 : BufTy.Contents (Elt F) arg4.view.ty) (k : Fin k0_t2_loop.trips) :
    tripL_k0_t2 (F := F) Variants.none c none i arg2 harg2 arg3 harg3 arg4 harg4 arg5 harg5 arg6 harg6 arg7 harg7 f0 f1 f2 k = [piece2 (arg2.view.read (Elt F) f0) (arg3.view.read (Elt F) f1) (arg4.view.read (Elt F) f2) k] := by
  unfold tripL_k0_t2 trip_k0_t2
  rfl

/-- The trips before `n` of loop 2. -/
theorem trips2 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x256x2048 .bf16) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x2048x256 .bf16) (harg7 : arg7.IsWhole) (f0 : BufTy.Contents (Elt F) arg2.view.ty) (f1 : BufTy.Contents (Elt F) arg3.view.ty) (f2 : BufTy.Contents (Elt F) arg4.view.ty) (n : ℕ) (hn : n ≤ k0_t2_loop.trips) :
    pb_k0_t2 (F := F) Variants.none c none i arg2 harg2 arg3 harg3 arg4 harg4 arg5 harg5 arg6 harg6 arg7 harg7 f0 f1 f2 n = before (piece2 (arg2.view.read (Elt F) f0) (arg3.view.read (Elt F) f1) (arg4.view.read (Elt F) f2)) n := by
  induction n with
  | zero => rfl
  | succ n ih =>
    rw [pb_k0_t2_succ Variants.none c none i arg2 harg2 arg3 harg3 arg4 harg4 arg5 harg5 arg6 harg6 arg7 harg7 f0 f1 f2 ⟨n, hn⟩, trip2, ih (Nat.le_of_succ_le hn), before, dif_pos (show n < k0_t2_loop.trips from hn)]
    rfl

/-! ## The step's triple -/

set_option maxHeartbeats 400000 in
/-- A step, its inputs' blocks at `x0` … `x4`: it leaves them and writes `out` of them. -/
theorem sound_kernel (c : Dev nD) (E : Set ℕ) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x256x2048 .bf16) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x2048x256 .bf16) (harg7 : arg7.IsWhole)
    (x0 x1 : Vec F S1x2048x512 .bf16) (x2 : Vec F S1x256x2048 .bf16) (x3 x4 : Vec F S1x1x1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out x0 x1 x2 x3 x4)) -∗ K ⟨⟩))
      ⊢ wp frame (wpE (defs₀ (F := F)) Variants.none c none) E (cc0_attn i arg2 harg2 arg3 harg3 arg4 harg4 arg5 harg5 arg6 harg6 arg7 harg7) K := by
  simp only [cc0_attn_eq_skeleton]; unfold cc0_attn_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  split
  · rename_i hC
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    rw [trips1 c i arg2 harg2 arg3 harg3 arg4 harg4 arg5 harg5 arg6 harg6 arg7 harg7 f0 f1 f2 _ le_rfl, trips2 c i arg2 harg2 arg3 harg3 arg4 harg4 arg5 harg5 arg6 harg6 arg7 harg7 f0 f1 f2 _ le_rfl]
    refine (congrArg _ ?_).trans (View.read_writes_eq_canon arg7.view arg7.view.junk _ (cover_stores _ _ _ _ _))
    unfold stores
    rw [if_pos (show Again (arg2.view.read (Elt F) f0) (arg3.view.read (Elt F) f1) (arg5.view.read (Elt F) f3) (arg6.view.read (Elt F) f4) from hC)]
    refine congrArg (fun g => arg7.view.writes (Elt F) arg7.view.junk (_ ++ (_ ++ g))) ?_
    rfl
  · rename_i hC
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (congrArg _ ?_).trans (View.read_writes_eq_canon arg7.view f5 _ (cover_stores _ _ _ _ _))
    unfold stores
    rw [if_neg (show ¬Again (arg2.view.read (Elt F) f0) (arg3.view.read (Elt F) f1) (arg5.view.read (Elt F) f3) (arg6.view.read (Elt F) f4) from hC)]
    refine congrArg (fun g => arg7.view.writes (Elt F) f5 g) ?_
    rfl

end Cert.AttnIdeal.Step
-- ==== Proof.AttnIdealTile.lean ====
/- A tile of the attention call, at real queries, keys and values and under any real shift: the softmax-weighted
   average of the values. So every store of a step, of either pass, holds the same function of the step's blocks. -/
module

public import proofs.«01_k».proof.Proof.AttnSoft
public import proofs.«01_k».proof.Proof.AttnIdealStep

@[expose] public section

set_option maxRecDepth 16384

noncomputable section

namespace Cert.AttnIdeal.Step

open Idealize.ShloMosaic Idealize.ShloMosaic.TcCoe Cert.AttnIdeal Cert.AttnIdeal.Gen

theorem tile_apply (s : FVec Ideal S1x512 .f32) (k : Vec Ideal S1x2048x256 .bf16) (q : Vec Ideal S1x512x256 .bf16) (v : Vec Ideal S1x128x2048 .bf16)
    (r : Fin 512) (d : Fin 128) : tile s k q v (ix3 0 r d)
      = (∑ x, v (ix3 0 d x) * Ideal.exp2 (∑ e, k (ix3 0 x e) * q (ix3 0 r e) - s (ix2 0 r)))
        * Ideal.div 1 (∑ x, Ideal.exp2 (∑ e, k (ix3 0 x e) * q (ix3 0 r e) - s (ix2 0 r))) := by
  pointwise [tile, sums, weights, scores]
  rfl

/-- A tile's value at real operands and a real shift. -/
theorem tile_real (s : FVec Ideal S1x512 .f32) (k : Vec Ideal S1x2048x256 .bf16) (q : Vec Ideal S1x512x256 .bf16) (v : Vec Ideal S1x128x2048 .bf16)
    (kr : S1x2048x256.Idx → ℝ) (qr : S1x512x256.Idx → ℝ) (vr : S1x128x2048.Idx → ℝ)
    (hk : ∀ i, k i = kr i) (hq : ∀ i, q i = qr i) (hv : ∀ i, v i = vr i) (hs : ∀ i, ∃ m : ℝ, s i = m) (r : Fin 512) (d : Fin 128) :
    tile s k q v (ix3 0 r d) = (AttnSoft.soft (fun x => ∑ e, kr (ix3 0 x e) * qr (ix3 0 r e)) (fun x => vr (ix3 0 d x)) : EReal) := by
  obtain ⟨m, hm⟩ := hs (ix2 0 r)
  rw [tile_apply, hm]
  simp only [hk, hq, hv, ← EReal.coe_mul, AttnSoft.sum_coe]
  exact AttnSoft.soft_of_exp2 (n := 2047) _ _ m

/-- The shift bounded by norms is real where the squared norms are real and not negative. -/
theorem bound_real (ks : Vec Ideal S1x1x1x2048 .f32) (qs : Vec Ideal S1x1x1x512 .f32)
    (hk : ∀ i, ∃ r : ℝ, 0 ≤ r ∧ ks i = r) (hq : ∀ i, ∃ r : ℝ, 0 ≤ r ∧ qs i = r) (i : S1x512.Idx) : ∃ m : ℝ, bound ks qs i = m := by
  idx_vars i
  obtain ⟨a, ha, hqa⟩ := hq (ix4 0 0 0 i1)
  obtain ⟨c, hc⟩ := AttnSoft.slack
  obtain ⟨M, hM⟩ := AttnSoft.fold_max_coe (Finset.univ : Finset (Fin 2048)) ⟨0, Finset.mem_univ _⟩ (fun x => ks (ix4 0 0 0 x))
    (fun x => (hk _).imp fun _ h => h.2)
  have hM0 : 0 ≤ M := by
    obtain ⟨b, hb, hkb⟩ := hk (ix4 0 0 0 0)
    have h : ks (ix4 0 0 0 0) ≤ (M : EReal) := hM ▸ (Finset.le_fold_max _).2 (.inr ⟨0, Finset.mem_univ _, le_rfl⟩)
    rw [hkb] at h
    exact hb.trans (EReal.coe_le_coe_iff.1 h)
  have e : bound ks qs (ix2 i0 i1) = Ideal.sqrt (qs (ix4 0 0 0 i1)) *
      (Ideal.sqrt (Finset.fold max (Ideal.ofBits FTy.f32 0xFF800000#32) (fun x => ks (ix4 0 0 0 x)) Finset.univ) *
        Ideal.ofBits FTy.f32 0x3F820000#32) := by
    pointwise [bound, k0_pay3]
  rw [e, AttnSoft.neg_inf, hM, hqa, hc, AttnSoft.sqrt_coe ha, AttnSoft.sqrt_coe hM0, ← EReal.coe_mul, ← EReal.coe_mul]
  exact ⟨_, rfl⟩

/-- So is the largest score of real queries and keys. -/
theorem largest_real (k : Vec Ideal S1x2048x256 .bf16) (q : Vec Ideal S1x512x256 .bf16)
    (kr : S1x2048x256.Idx → ℝ) (qr : S1x512x256.Idx → ℝ) (hk : ∀ i, k i = kr i) (hq : ∀ i, q i = qr i) (i : S1x512.Idx) :
    ∃ m : ℝ, largest k q i = m := by
  idx_vars i
  have e : largest k q (ix2 i0 i1) = Finset.fold max (Ideal.ofBits FTy.f32 0xFF800000#32)
      (fun x => ∑ e, k (ix3 0 x e) * q (ix3 0 i1 e)) Finset.univ := by
    pointwise [largest, scores]
  rw [e, AttnSoft.neg_inf]
  refine AttnSoft.fold_max_coe _ ⟨0, Finset.mem_univ _⟩ _ fun x => ?_
  simp only [hk, hq, ← EReal.coe_mul, AttnSoft.sum_coe]
  exact ⟨_, rfl⟩

/-- A step's block of the output, from its blocks of the queries, keys and values: two heads side by side. -/
def blockVal (q k : S1x2048x512.Idx → ℝ) (v : S1x256x2048.Idx → ℝ) (y : S1x2048x256.Idx) : EReal :=
  (AttnSoft.soft (fun x : Fin 2048 => ∑ e : Fin 256, k (ix3 0 x ⟨256 * ((y 2).val / 128) + e.val, by have : (y 2).val < 256 := (y 2).isLt; have := e.isLt; omega⟩)
      * q (ix3 0 (y 1) ⟨256 * ((y 2).val / 128) + e.val, by have : (y 2).val < 256 := (y 2).isLt; have := e.isLt; omega⟩))
    (fun x => v (ix3 0 (y 2) x)) : EReal)

/-- Every tile's store is that function where the tile lies: head `h`, queries from `o`. -/
theorem tile_blockVal (x0 x1 : Vec Ideal S1x2048x512 .bf16) (x2 : Vec Ideal S1x256x2048 .bf16)
    (q k : S1x2048x512.Idx → ℝ) (v : S1x256x2048.Idx → ℝ) (h0 : ∀ i, x0 i = q i) (h1 : ∀ i, x1 i = k i) (h2 : ∀ i, x2 i = v i)
    (h o : ℕ) (oK oQ oV oO : Fin 3 → ℕ) (eK : oK = ![0, 0, 256 * h]) (eQ : oQ = ![0, o, 256 * h]) (eV : oV = ![0, 128 * h, 0]) (eO : oO = ![0, o, 128 * h])
    (iK : ∀ a, oK a + S1x2048x256.size a ≤ S1x2048x512.size a) (iQ : ∀ a, oQ a + S1x512x256.size a ≤ S1x2048x512.size a)
    (iV : ∀ a, oV a + S1x128x2048.size a ≤ S1x256x2048.size a) (iO : ∀ a, oO a + S1x512x128.size a ≤ S1x2048x256.size a)
    (s : FVec Ideal S1x512 .f32) (hs : ∀ i, ∃ m : ℝ, s i = m) (x : S1x512x128.Idx) :
    tile s (View.ld x1 (Rect.unit (s := S1x2048x512) oK S1x2048x256.size iK)) (View.ld x0 (Rect.unit (s := S1x2048x512) oQ S1x512x256.size iQ))
      (View.ld x2 (Rect.unit (s := S1x256x2048) oV S1x128x2048.size iV)) x
    = blockVal q k v ((Rect.unit (s := S1x2048x256) oO S1x512x128.size iO).emb x) := by
  subst eK eQ eV eO
  obtain ⟨r, d, rfl⟩ : ∃ (r : Fin 512) (d : Fin 128), x = ix3 0 r d :=
    ⟨x 1, x 2, by rw [eq_ix3 x]; congr 1; exact Subsingleton.elim _ _⟩
  refine (tile_real s _ _ _ (fun i => k ((Rect.unit (s := S1x2048x512) ![0, 0, 256 * h] S1x2048x256.size iK).idx i))
    (fun i => q ((Rect.unit (s := S1x2048x512) ![0, o, 256 * h] S1x512x256.size iQ).idx i))
    (fun i => v ((Rect.unit (s := S1x256x2048) ![0, 128 * h, 0] S1x128x2048.size iV).idx i))
    (fun i => h1 _) (fun i => h0 _) (fun i => h2 _) hs r d).trans ?_
  have hd : (128 * h + d.val) / 128 = h := by have := d.isLt; omega
  unfold blockVal
  refine congrArg (fun z : ℝ => (z : EReal)) (congrArg₂ AttnSoft.soft (funext fun x => Finset.sum_congr rfl fun e _ =>
    congrArg₂ (· * ·) (congrArg k ?_) (congrArg q ?_)) (funext fun x => congrArg v ?_))
  · funext a; apply Fin.ext
    match a with
    | ⟨0, _⟩ => rfl
    | ⟨1, _⟩ => show 0 + 1 * x.val = x.val; omega
    | ⟨2, _⟩ => show 256 * h + 1 * e.val = 256 * ((128 * h + 1 * d.val) / 128) + e.val; rw [one_mul, one_mul, hd]
  · funext a; apply Fin.ext
    match a with
    | ⟨0, _⟩ => rfl
    | ⟨1, _⟩ => rfl
    | ⟨2, _⟩ => show 256 * h + 1 * e.val = 256 * ((128 * h + 1 * d.val) / 128) + e.val; rw [one_mul, one_mul, hd]
  · funext a; apply Fin.ext
    match a with
    | ⟨0, _⟩ => rfl
    | ⟨1, _⟩ => rfl
    | ⟨2, _⟩ => show 0 + 1 * x.val = x.val; omega

end Cert.AttnIdeal.Step
end
-- ==== Proof.AttnIdealRun.lean ====
/- The attention call's launch, for any float values: the step's triple at every grid point, and the run of @main. -/
module

public import proofs.«01_k».proof.Proof.Gen.AttnIdeal.Frame
public import proofs.«01_k».proof.Proof.AttnIdealStep
public import Idealize.ShloMosaic.Lib.Claim

@[expose] public section

set_option maxRecDepth 16384

noncomputable section

namespace Cert.AttnIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each window's buffer holds after the step at a point: an input's its block, the output's `out` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the step is called with at point `t`, window by window. -/
def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def stepPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The step at any point. -/
theorem sound_step (c : Dev nD) (t : Fin cfg0.N) :
    stepPre m c t ⊢ wp Idealize.ShloMosaic.frame (wpE (defs₀ (F := F)) Variants.none c none) Set.univ (bodyAt0 t) (fun _ => stepPost m c t) := by
  unfold stepPre stepPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The library's obligation, at every point. -/
theorem obligation (c : Dev nD) : BodyObligation (dats (F := F) m 0 c) (defs₀ (F := F)) Variants.none () Set.univ := fun t => by
  rw [bigSep_W0, bigSep_W0, defs₀_row]
  exact triple_restated (sound_step m c t) rfl .rfl fun _ => .rfl

set_option backward.isDefEq.respectTransparency.types false in
set_option maxHeartbeats 800000 in
/-- The launch: every array ends at what the library computes from `dats`, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame claim, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.AttnIdeal.Step
-- ==== Proof.AttnIdealValue.lean ====
/- The attention call's result array at real queries, keys and values: every element is the softmax-weighted average of
   the values, whatever the pass that stored it. -/
module

public import proofs.«01_k».proof.Proof.AttnIdealTile
public import proofs.«01_k».proof.Proof.AttnIdealRun
public import Idealize.ShloMosaic.Lib.Pipeline.ValueKit.Geometry

@[expose] public section

set_option maxRecDepth 16384

noncomputable section

namespace Cert.AttnIdeal.Step

open Idealize.ShloMosaic Idealize.ShloMosaic.TcCoe Cert.AttnIdeal Cert.AttnIdeal.Gen
open Idealize.SL Idealize.SL.Sem
open Idealize.ShloMosaic.Pipeline (Dat Cfg Window)

/-! ## A step's block -/

theorem off1_eq : ∀ k : Fin k0_t1_loop.trips, k0_off1 k = ![0, 512 * k.val, 0] := by decide +kernel
theorem off2_eq : ∀ k : Fin k0_t1_loop.trips, k0_off2 k = ![0, 512 * k.val, 0] := by decide +kernel
theorem off3_eq : ∀ k : Fin k0_t2_loop.trips, k0_off3 k = ![0, 512 * k.val, 256] := by decide +kernel
theorem off4_eq : ∀ k : Fin k0_t2_loop.trips, k0_off4 k = ![0, 512 * k.val, 128] := by decide +kernel

/-- The pieces of some trips are pieces of trips. -/
theorem mem_before {N : ℕ} (p : Fin N → View.Piece (Elt Ideal) S1x2048x256 .bf16) (n : ℕ) (pc) (h : pc ∈ before p n) : ∃ k, pc = p k := by
  induction n with
  | zero => simp [before] at h
  | succ n ih =>
    unfold before at h
    split at h
    · rcases List.mem_cons.1 h with rfl | h
      · exact ⟨_, rfl⟩
      · exact ih h
    · exact ih h

section Block

variable (x0 x1 : Vec Ideal S1x2048x512 .bf16) (x2 : Vec Ideal S1x256x2048 .bf16) (x3 x4 : Vec Ideal S1x1x1x2048 .f32)
  (q k : S1x2048x512.Idx → ℝ) (v : S1x256x2048.Idx → ℝ) (h0 : ∀ i, x0 i = q i) (h1 : ∀ i, x1 i = k i) (h2 : ∀ i, x2 i = v i)
  (h3 : ∀ i, ∃ r : ℝ, 0 ≤ r ∧ x3 i = r) (h4 : ∀ i, ∃ r : ℝ, 0 ≤ r ∧ x4 i = r)

include h0 h1 h2 h3 h4 in
/-- The first pass's stores are the block's function. -/
theorem firstPass_val : ∀ p ∈ firstPass x0 x1 x2 x3 x4, ∀ x : p.1.shape.Idx, p.2 x = blockVal q k v (p.1.emb x) := by
  rw [firstPass_eq]
  simp only [List.forall_mem_cons, List.not_mem_nil, false_imp_iff, implies_true, and_true]
  refine ⟨?_, ?_, ?_, ?_, ?_, ?_, ?_, ?_⟩
  · exact tile_blockVal x0 x1 x2 q k v h0 h1 h2 1 1536 _ _ _ _ rfl rfl rfl rfl _ _ _ _ _ (bound_real _ _ (fun _ => h4 _) (fun _ => h3 _))
  · exact tile_blockVal x0 x1 x2 q k v h0 h1 h2 1 1024 _ _ _ _ rfl rfl rfl rfl _ _ _ _ _ (bound_real _ _ (fun _ => h4 _) (fun _ => h3 _))
  · exact tile_blockVal x0 x1 x2 q k v h0 h1 h2 1 512 _ _ _ _ rfl rfl rfl rfl _ _ _ _ _ (bound_real _ _ (fun _ => h4 _) (fun _ => h3 _))
  · exact tile_blockVal x0 x1 x2 q k v h0 h1 h2 1 0 _ _ _ _ rfl rfl rfl rfl _ _ _ _ _ (bound_real _ _ (fun _ => h4 _) (fun _ => h3 _))
  · exact tile_blockVal x0 x1 x2 q k v h0 h1 h2 0 1536 _ _ _ _ rfl rfl rfl rfl _ _ _ _ _ (bound_real _ _ (fun _ => h4 _) (fun _ => h3 _))
  · exact tile_blockVal x0 x1 x2 q k v h0 h1 h2 0 1024 _ _ _ _ rfl rfl rfl rfl _ _ _ _ _ (bound_real _ _ (fun _ => h4 _) (fun _ => h3 _))
  · exact tile_blockVal x0 x1 x2 q k v h0 h1 h2 0 512 _ _ _ _ rfl rfl rfl rfl _ _ _ _ _ (bound_real _ _ (fun _ => h4 _) (fun _ => h3 _))
  · exact tile_blockVal x0 x1 x2 q k v h0 h1 h2 0 0 _ _ _ _ rfl rfl rfl rfl _ _ _ _ _ (bound_real _ _ (fun _ => h4 _) (fun _ => h3 _))

include h0 h1 h2 in
theorem piece1_val (j : Fin k0_t1_loop.trips) (x) : (piece1 x0 x1 x2 j).2 x = blockVal q k v ((piece1 x0 x1 x2 j).1.emb x) :=
  tile_blockVal x0 x1 x2 q k v h0 h1 h2 0 (512 * j.val) _ _ _ _ rfl (off1_eq j) rfl (off2_eq j) _ _ _ (k0_off2_inb j) _
    (largest_real _ _ (fun i => k ((Rect.unit (s := S1x2048x512) ![0, 0, 0] S1x2048x256.size inb_S1x2048x512_S1x2048x256_0_0_0).idx i))
      (fun i => q ((Rect.unit (s := S1x2048x512) (k0_off1 j) S1x512x256.size (k0_off1_inb j)).idx i)) (fun _ => h1 _) (fun _ => h0 _)) x

include h0 h1 h2 in
theorem piece2_val (j : Fin k0_t2_loop.trips) (x) : (piece2 x0 x1 x2 j).2 x = blockVal q k v ((piece2 x0 x1 x2 j).1.emb x) :=
  tile_blockVal x0 x1 x2 q k v h0 h1 h2 1 (512 * j.val) _ _ _ _ rfl (off3_eq j) rfl (off4_eq j) _ _ _ (k0_off4_inb j) _
    (largest_real _ _ (fun i => k ((Rect.unit (s := S1x2048x512) ![0, 0, 256] S1x2048x256.size inb_S1x2048x512_S1x2048x256_0_0_256).idx i))
      (fun i => q ((Rect.unit (s := S1x2048x512) (k0_off3 j) S1x512x256.size (k0_off3_inb j)).idx i)) (fun _ => h1 _) (fun _ => h0 _)) x

include h0 h1 h2 h3 h4 in
/-- So what the step leaves in its block is that function, in either case. -/
theorem out_val (y : S1x2048x256.Idx) : out x0 x1 x2 x3 x4 y = blockVal q k v y := by
  have hf := firstPass_val x0 x1 x2 x3 x4 q k v h0 h1 h2 h3 h4
  refine View.canon_apply_of_pieces (blockVal q k v) (stores x0 x1 x2 x3 x4) (fun p hp => ?_) y (cover_stores x0 x1 x2 x3 x4 y)
  unfold stores at hp
  split at hp
  · rcases List.mem_append.1 hp with h | h
    · obtain ⟨j, rfl⟩ := mem_before _ _ _ h
      exact piece2_val x0 x1 x2 q k v h0 h1 h2 j
    · rcases List.mem_append.1 h with h | h
      · obtain ⟨j, rfl⟩ := mem_before _ _ _ h
        exact piece1_val x0 x1 x2 q k v h0 h1 h2 j
      · exact hf p h
  · exact hf p hp

end Block

/-! ## The array -/

theorem index0 : ∀ t : Fin grid0.N, win0_0.index t = ![(grid0.coords t 0).val, 0, (grid0.coords t 1).val] := by decide +kernel
theorem index1 : ∀ t : Fin grid0.N, win0_1.index t = ![(grid0.coords t 0).val, 0, (grid0.coords t 1).val] := by decide +kernel
theorem index2 : ∀ t : Fin grid0.N, win0_2.index t = ![(grid0.coords t 0).val, (grid0.coords t 1).val, 0] := by decide +kernel
theorem index5 : ∀ t : Fin grid0.N, win0_5.index t = ![(grid0.coords t 0).val, 0, (grid0.coords t 1).val] := by decide +kernel

variable (m : (ℓ : Loc nD τ sig) → Buf (Elt Ideal) ℓ) (ρ : Dev nD → PrngReg)

/-- The squared norms reach the region reshaped. -/
theorem V_v0 (c : Dev nD) : V m c main_v0 = shapeCast S32x4x1x2048 (m ((c.tc : Thread nD τ).loc main_arg3)) shapeCasts_S32x4x2048_S32x4x1x2048 := by
  unfold V hostOps0; after_results <;> rfl

theorem V_v1 (c : Dev nD) : V m c main_v1 = shapeCast S32x4x1x2048 (m ((c.tc : Thread nD τ).loc main_arg4)) shapeCasts_S32x4x2048_S32x4x1x2048 := by
  unfold V hostOps0; after_results <;> rfl

section Array

variable (c : Dev nD) (q k : S32x2048x2048.Idx → ℝ) (v : S32x1024x2048.Idx → ℝ)
  (h0 : ∀ i, m ((c.tc : Thread nD τ).loc main_arg0) i = (q i : EReal)) (h1 : ∀ i, m ((c.tc : Thread nD τ).loc main_arg1) i = (k i : EReal))
  (h2 : ∀ i, m ((c.tc : Thread nD τ).loc main_arg2) i = (v i : EReal))
  (h3 : ∀ i, ∃ r : ℝ, 0 ≤ r ∧ m ((c.tc : Thread nD τ).loc main_arg3) i = (r : EReal)) (h4 : ∀ i, ∃ r : ℝ, 0 ≤ r ∧ m ((c.tc : Thread nD τ).loc main_arg4) i = (r : EReal))

include h0 h1 h2 h3 h4 in
/-- The result array after the run. -/
theorem final : (dats m 0 c).arrAt 5 cfg0.N = AttnSoft.attnVal q k v := by
  refine (dats m 0 c).arrAt_eq_of_covers 5 _ (by decide +kernel) fun t hf y => ?_
  have e0 := index0 t; have e1 := index1 t; have e2 := index2 t; have e5 := index5 t
  blk_simp
  rw [after5, out_val _ _ _ _ _ (fun i => q ((win0_0.blk t).view.emb i)) (fun i => k ((win0_1.blk t).view.emb i)) (fun i => v ((win0_2.blk t).view.emb i))
    (fun i => ?_) (fun i => ?_) (fun i => ?_) (fun i => ?_) (fun i => ?_)]
  · refine congrArg Real.toEReal (congrArg₂ AttnSoft.soft (funext fun x => Finset.sum_congr rfl fun e _ => congrArg₂ (· * ·) (congrArg k ?_) (congrArg q ?_))
      (funext fun x => congrArg v ?_))
    · have := e.isLt
      have hy : (y 2).val < 256 := (y 2).isLt
      blk_ext [e1, e5]
    · have := e.isLt
      have hy : (y 2).val < 256 := (y 2).isLt
      blk_ext [e0, e5]
    · blk_ext [e2, e5]
  · exact (congrFun (V_main_arg0 m c) _).trans (h0 _)
  · exact (congrFun (V_main_arg1 m c) _).trans (h1 _)
  · exact (congrFun (V_main_arg2 m c) _).trans (h2 _)
  · obtain ⟨r, hr, e⟩ := h3 (Shape.reshapeEquiv shapeCasts_S32x4x2048_S32x4x1x2048 ((win0_3.blk t).view.emb i))
    exact ⟨r, hr, (congrFun (V_v0 m c) _).trans e⟩
  · obtain ⟨r, hr, e⟩ := h4 (Shape.reshapeEquiv shapeCasts_S32x4x2048_S32x4x1x2048 ((win0_4.blk t).view.emb i))
    exact ⟨r, hr, (congrFun (V_v1 m c) _).trans e⟩

end Array

end Cert.AttnIdeal.Step
end
-- ==== Proof.AttnRefValue.lean ====
/- The reference attention's result, read at an index: the softmax-weighted average of the values. -/
module

public import proofs.«01_k».proof.Proof.AttnSoft
public import proofs.«01_k».proof.Proof.Gen.AttnRefIdeal
public import proofs.«01_k».proof.Proof.Gen.AttnRefIdeal.Run

@[expose] public section

set_option maxRecDepth 16384

noncomputable section

namespace Cert.AttnRefIdeal.Value

open Cert.AttnRefIdeal Cert.AttnRefIdeal.Gen Idealize.ShloMosaic Idealize.ShloMosaic.TcCoe

/-- The scores, scaled by the logarithm of two. -/
def scores (q k : FVec Ideal S32x2048x2048 .bf16) : FVec Ideal S32x8x2048x2048 .f32 :=
  mulf (Host.dotGeneral dot_S32x2048x8x256_S32x2048x8x256_S32x8x2048x2048_3_3_1_1_02_02 none
      (shapeCast S32x2048x8x256 (extf .f32 q bitsLt_bf16_f32) shapeCasts_S32x2048x2048_S32x2048x8x256)
      (shapeCast S32x2048x8x256 (extf .f32 k bitsLt_bf16_f32) shapeCasts_S32x2048x2048_S32x2048x8x256))
    (broadcastInDim S32x8x2048x2048 ![] bcast_S_S32x8x2048x2048 (Host.log (constant S_ .f32 0x40000000#32)))

/-- The largest score of each query. -/
def rowMax (q k : FVec Ideal S32x2048x2048 .bf16) : FVec Ideal S32x8x2048 .f32 :=
  Host.reduce FloatOps.maximumf (scores q k) (constant S_ .f32 0xFF800000#32) reducesTo_S32x8x2048x2048_S32x8x2048_d3 h_S_

/-- The same, compared with the least extended real. -/
def top (q k : FVec Ideal S32x2048x2048 .bf16) : FVec Ideal S32x8x2048 .f32 :=
  maximumf (broadcastInDim S32x8x2048 ![] bcast_S_S32x8x2048 (constant S_ .f32 0xFF800000#32)) (rowMax q k)

/-- The weights. -/
def weights (q k : FVec Ideal S32x2048x2048 .bf16) : FVec Ideal S32x8x2048x2048 .f32 :=
  Host.exp (subf (scores q k) (broadcastInDim S32x8x2048x2048 ![0, 1, 2, 3] bcast_S32x8x2048x1_S32x8x2048x2048_0_1_2_3
    (broadcastInDim S32x8x2048x1 ![0, 1, 2] bcast_S32x8x2048_S32x8x2048x1_0_1_2 (top q k))))

/-- The sums of the weights. -/
def sums (q k : FVec Ideal S32x2048x2048 .bf16) : FVec Ideal S32x8x2048 .f32 :=
  Host.reduceAdd (weights q k) (constant S_ .f32 0x00000000#32) reducesTo_S32x8x2048x2048_S32x8x2048_d3 h_S_

/-- The result: the values weighted. -/
def attention (q k : FVec Ideal S32x2048x2048 .bf16) (v : FVec Ideal S32x1024x2048 .bf16) : FVec Ideal S32x2048x1024 .bf16 :=
  truncf .bf16 (shapeCast S32x2048x1024 (transpose S32x2048x8x128 [0, 3, 1, 2]
    (Host.dotGeneral dot_S32x2048x8x128_S32x8x2048x2048_S32x8x128x2048_1_3_3_2_02_01 none
      (transpose S32x2048x8x128 [0, 3, 1, 2] (shapeCast S32x8x128x2048 (extf .f32 v bitsLt_bf16_f32) shapeCasts_S32x1024x2048_S32x8x128x2048)
        transposes_S32x8x128x2048_S32x2048x8x128_0_3_1_2)
      (Host.divf (weights q k) (broadcastInDim S32x8x2048x2048 ![0, 1, 2, 3] bcast_S32x8x2048x1_S32x8x2048x2048_0_1_2_3
        (broadcastInDim S32x8x2048x1 ![0, 1, 2] bcast_S32x8x2048_S32x8x2048x1_0_1_2 (sums q k)))))
    transposes_S32x8x128x2048_S32x2048x8x128_0_3_1_2) shapeCasts_S32x2048x8x128_S32x2048x1024) bitsLt_bf16_f32

theorem scores_apply (q k : FVec Ideal S32x2048x2048 .bf16) (b : Fin 32) (h : Fin 8) (r x : Fin 2048) :
    scores q k (ix4 b h r x) = (∑ e : Fin 256, q (ix3 b r ⟨h.val * 256 + e.val, by omega⟩) * k (ix3 b x ⟨h.val * 256 + e.val, by omega⟩)) * ((Real.log 2 : ℝ) : EReal) := by
  pointwise [scores]
  rw [AttnSoft.two, AttnSoft.log_two]
/-- The scores of real queries and keys have a largest, a real. -/
theorem rowMax_real (q k : FVec Ideal S32x2048x2048 .bf16) (hs : ∀ i, ∃ r : ℝ, scores q k i = r) (j : S32x8x2048.Idx) :
    ∃ M : ℝ, rowMax q k j = M := by
  unfold rowMax
  exact AttnSoft.reduce_max_coe (by decide) (scores q k) hs (constant (F := Ideal) S_ .f32 0xFF800000#32) (fun _ => AttnSoft.neg_inf)
    reducesTo_S32x8x2048x2048_S32x8x2048_d3 h_S_ j

/-- The maximum with a splat of the least extended real. -/
theorem max_least {s : Shape} (h : S_.BroadcastsInDim s ![]) (x : FVec Ideal s .f32) (j : s.Idx) :
    maximumf (broadcastInDim s ![] h (constant (F := Ideal) S_ .f32 0xFF800000#32)) x j = x j := by
  have e : broadcastInDim s ![] h (constant (F := Ideal) S_ .f32 0xFF800000#32) = fun _ => (⊥ : EReal) := funext fun _ => AttnSoft.neg_inf
  rw [e]
  exact max_eq_right bot_le

theorem top_real (q k : FVec Ideal S32x2048x2048 .bf16) (hs : ∀ i, ∃ r : ℝ, scores q k i = r) (j : S32x8x2048.Idx) :
    ∃ M : ℝ, top q k j = M := by
  unfold top
  rw [max_least]
  exact rowMax_real q k hs j

theorem weights_apply (q k : FVec Ideal S32x2048x2048 .bf16) (b : Fin 32) (h : Fin 8) (r x : Fin 2048) :
    weights q k (ix4 b h r x) = Ideal.exp (scores q k (ix4 b h r x) - top q k (ix3 b h r)) := by
  pointwise [weights]
theorem sums_apply (q k : FVec Ideal S32x2048x2048 .bf16) (b : Fin 32) (h : Fin 8) (r : Fin 2048) :
    sums q k (ix3 b h r) = ∑ x, weights q k (ix4 b h r x) := by
  pointwise [sums]
theorem attention_apply (q k : FVec Ideal S32x2048x2048 .bf16) (v : FVec Ideal S32x1024x2048 .bf16) (b : Fin 32) (r : Fin 2048) (c : Fin 1024) :
    attention q k v (ix3 b r c) = ∑ x, v (ix3 b c x) * Ideal.div (weights q k (ix4 b ⟨c.val / 128, by omega⟩ r x)) (sums q k (ix3 b ⟨c.val / 128, by omega⟩ r)) := by
  pointwise [attention]

end Cert.AttnRefIdeal.Value

end
-- ==== Proof.AttnRefReal.lean ====
/- The reference attention at real queries, keys and values. -/
module

public import proofs.«01_k».proof.Proof.AttnRefValue

@[expose] public section

set_option maxRecDepth 16384

noncomputable section

namespace Cert.AttnRefIdeal.Value

open Cert.AttnRefIdeal Cert.AttnRefIdeal.Gen Idealize.ShloMosaic Idealize.ShloMosaic.TcCoe

section

variable (Q K : FVec Ideal S32x2048x2048 .bf16) (V : FVec Ideal S32x1024x2048 .bf16)
  (q k : S32x2048x2048.Idx → ℝ) (v : S32x1024x2048.Idx → ℝ) (hq : ∀ i, Q i = (q i : EReal)) (hk : ∀ i, K i = (k i : EReal)) (hv : ∀ i, V i = (v i : EReal))

/-- A head's score of a query and a key. -/
def score (b : Fin 32) (h : Fin 8) (r x : Fin 2048) : ℝ := ∑ e : Fin 256, k (ix3 b x ⟨256 * h.val + e.val, by omega⟩) * q (ix3 b r ⟨256 * h.val + e.val, by omega⟩)

include hq hk in
theorem scores_val (b : Fin 32) (h : Fin 8) (r x : Fin 2048) : scores Q K (ix4 b h r x) = (score q k b h r x : EReal) * ((Real.log 2 : ℝ) : EReal) := by
  rw [scores_apply]
  congr 1
  unfold score
  rw [← AttnSoft.sum_coe]
  refine Finset.sum_congr rfl fun e _ => ?_
  rw [hq, hk, ← EReal.coe_mul, mul_comm]
  simp only [mul_comm h.val 256]

include hq hk in
theorem scores_real (i : S32x8x2048x2048.Idx) : ∃ s : ℝ, scores Q K i = s := by
  idx_vars i
  rw [scores_val Q K q k hq hk, ← EReal.coe_mul]
  exact ⟨_, rfl⟩

include hq hk hv in
/-- The reference's result at an index is the softmax-weighted average. -/
theorem attention_val (b : Fin 32) (r : Fin 2048) (c : Fin 1024) : attention Q K V (ix3 b r c) =
    (AttnSoft.soft (score q k b ⟨c.val / 128, by omega⟩ r) (fun x => v (ix3 b c x)) : EReal) := by
  obtain ⟨M, hM⟩ := top_real Q K (scores_real Q K q k hq hk) (ix3 b ⟨c.val / 128, by omega⟩ r)
  rw [attention_apply, sums_apply]
  simp only [weights_apply, scores_val Q K q k hq hk, hM, hv]
  exact AttnSoft.soft_of_exp (score q k b ⟨c.val / 128, _⟩ r) (fun x => v (ix3 b c x)) M

include hq hk hv in
theorem attention_real : attention Q K V = AttnSoft.attnVal q k v := by
  funext y
  idx_vars y
  exact attention_val Q K V q k v hq hk hv _ _ _

end

end Cert.AttnRefIdeal.Value

end
-- ==== Proof.AttnFinite.lean ====
/- What the attention's precondition says of each element: queries, keys and values are reals, squared norms reals not
   below zero. -/
module

public import proofs.«01_k».proof.Proof.AttnSoft
public import proofs.«01_k».proof.Proof.Gen.Pre_finite_inputs

@[expose] public section

set_option maxRecDepth 16384

noncomputable section

namespace Cert.AttnFinite

open Idealize.ShloMosaic Cert.Pre_finite_inputs Cert.Pre_finite_inputs.Gen

theorem true_of_ofBool {p : Prop} [Decidable p] (h : BitVec.ofBool (decide p) = 1#1) : p := by
  by_cases hp : p
  · exact hp
  · simp [hp] at h

/-- A number whose absolute value is below the infinity's word is real. -/
theorem real_of_abs {s : Shape} {φ : FTy} (hb : φ.bits < FTy.bits .f32) (hs : S_.BroadcastsInDim s ![]) (x : FVec Ideal s φ)
    (h : cmpf .olt (Host.absf (extf .f32 x hb)) (broadcastInDim s ![] hs (constant (F := Ideal) S_ .f32 0x7F800000#32)) = fun _ => 1#1) (i : s.Idx) :
    ∃ r : ℝ, x i = (r : EReal) := by
  have e : broadcastInDim s ![] hs (constant (F := Ideal) S_ .f32 0x7F800000#32) = fun _ => (⊤ : EReal) := funext fun _ => AttnSoft.pos_inf
  rw [e] at h
  have h2 : max (x i : EReal) (-(x i : EReal)) < ⊤ := true_of_ofBool (congrFun h i)
  refine ⟨(x i : EReal).toReal, (EReal.coe_toReal ?_ ?_).symm⟩
  · rintro h3; rw [h3] at h2; simp at h2
  · rintro h3; rw [h3] at h2; simp at h2

/-- A number from zero and below the infinity's word is a real not below zero. -/
theorem real_of_range {s : Shape} (hs : S_.BroadcastsInDim s ![]) (x : FVec Ideal s .f32)
    (h : andi (cmpf .oge x (broadcastInDim s ![] hs (constant (F := Ideal) S_ .f32 0x00000000#32)))
      (cmpf .olt x (broadcastInDim s ![] hs (constant (F := Ideal) S_ .f32 0x7F800000#32))) = fun _ => 1#1) (i : s.Idx) :
    ∃ r : ℝ, 0 ≤ r ∧ x i = (r : EReal) := by
  have e : broadcastInDim s ![] hs (constant (F := Ideal) S_ .f32 0x7F800000#32) = fun _ => (⊤ : EReal) := funext fun _ => AttnSoft.pos_inf
  have e0 : broadcastInDim s ![] hs (constant (F := Ideal) S_ .f32 0x00000000#32) = fun _ => (0 : EReal) := funext fun _ => Ideal.ofBits_zero .f32
  rw [e, e0] at h
  have hi : BitVec.ofBool (decide ((0 : EReal) ≤ x i)) &&& BitVec.ofBool (decide ((x i : EReal) < ⊤)) = 1#1 := congrFun h i
  have h1 : (0 : EReal) ≤ x i := by
    by_contra hn; simp [hn] at hi
  have h2 : (x i : EReal) < ⊤ := by
    by_contra hn; simp [hn] at hi
  have e3 : ((x i : EReal).toReal : EReal) = x i := EReal.coe_toReal h2.ne (fun h3 => by rw [h3] at h1; simp at h1)
  exact ⟨_, EReal.toReal_nonneg h1, e3.symm⟩

/-- The precondition read. -/
theorem reals (Q K : FVec Ideal S32x2048x2048 .bf16) (V : FVec Ideal S32x1024x2048 .bf16) (a b : FVec Ideal S32x4x2048 .f32)
    (h : (fn (F := Ideal) Q K V a b).1 = (fun _ => 1#1) ∧ (fn (F := Ideal) Q K V a b).2.1 = (fun _ => 1#1) ∧ (fn (F := Ideal) Q K V a b).2.2.1 = (fun _ => 1#1)
      ∧ (fn (F := Ideal) Q K V a b).2.2.2.1 = (fun _ => 1#1) ∧ (fn (F := Ideal) Q K V a b).2.2.2.2 = (fun _ => 1#1)) :
    (∃ q : S32x2048x2048.Idx → ℝ, ∀ i, Q i = (q i : EReal)) ∧ (∃ k : S32x2048x2048.Idx → ℝ, ∀ i, K i = (k i : EReal))
      ∧ (∃ v : S32x1024x2048.Idx → ℝ, ∀ i, V i = (v i : EReal)) ∧ (∀ i, ∃ r : ℝ, 0 ≤ r ∧ a i = (r : EReal)) ∧ (∀ i, ∃ r : ℝ, 0 ≤ r ∧ b i = (r : EReal)) :=
  ⟨Classical.skolem.1 (real_of_abs _ _ Q h.1), Classical.skolem.1 (real_of_abs _ _ K h.2.1), Classical.skolem.1 (real_of_abs _ _ V h.2.2.1),
    real_of_range _ a h.2.2.2.1, real_of_range _ b h.2.2.2.2⟩

end Cert.AttnFinite

end
-- ==== Proof.AttnClaims.lean ====
/- The attention call's claims. -/
module

public import proofs.«01_k».proof.Defs
public import proofs.«01_k».proof.Proof.AttnRun
public import proofs.«01_k».proof.Proof.AttnIdealValue
public import proofs.«01_k».proof.Proof.AttnRefReal
public import proofs.«01_k».proof.Proof.AttnFinite
public import Idealize.ShloMosaic.Lib.Quiescent

@[expose] public section

set_option maxRecDepth 16384

noncomputable section

namespace Cert.Proof

open Idealize.ShloMosaic Idealize.SL.Sem

theorem frame_Attn : Cert.quiescent_Attn := fun m ρ _ => Cert.Attn.Step.frame m ρ

theorem frame_AttnIdeal : Cert.quiescent_AttnIdeal := fun m ρ _ => Cert.AttnIdeal.Step.frame m ρ

theorem frame_AttnIdeal_finite : Cert.quiescent_AttnIdeal_pre_finite_inputs := fun m ρ _ => Cert.AttnIdeal.Step.frame m ρ

theorem frame_AttnRef : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

theorem frame_AttnRef_finite : Cert.quiescent_AttnRefIdeal_pre_finite_inputs := fun m ρ _ => frame_AttnRef m ρ trivial

/-- The kernel's array at the inputs the precondition admits. -/
theorem value_AttnIdeal (m : (ℓ : Loc Cert.AttnIdeal.nD Cert.AttnIdeal.τ Cert.AttnIdeal.sig) → Buf (Elt Ideal) ℓ) (hpre : Cert.Pre_AttnIdeal_finite_inputs m)
    (c : Dev Cert.AttnIdeal.nD) :
    (Cert.AttnIdeal.Step.dats m 0 c).arrAt 5 Cert.AttnIdeal.cfg0.N = Cert.AttnRefIdeal.Value.attention (m ((c.tc : Thread Cert.AttnIdeal.nD Cert.AttnIdeal.τ).loc Cert.AttnIdeal.main_arg0))
      (m ((c.tc : Thread Cert.AttnIdeal.nD Cert.AttnIdeal.τ).loc Cert.AttnIdeal.main_arg1)) (m ((c.tc : Thread Cert.AttnIdeal.nD Cert.AttnIdeal.τ).loc Cert.AttnIdeal.main_arg2)) := by
  obtain ⟨⟨q, hq⟩, ⟨k, hk⟩, ⟨v, hv⟩, ha, hb⟩ := Cert.AttnFinite.reals _ _ _ _ _ (hpre c)
  exact (Cert.AttnIdeal.Step.final m c q k v hq hk hv ha hb).trans (Cert.AttnRefIdeal.Value.attention_real _ _ _ q k v hq hk hv).symm

/-- The arguments stay. -/
theorem frame_kept (m : (ℓ : Loc Cert.AttnIdeal.nD Cert.AttnIdeal.τ Cert.AttnIdeal.sig) → Buf (Elt Ideal) ℓ) (ρ : Dev Cert.AttnIdeal.nD → PrngReg) :
    θ_run (Cert.AttnIdeal.defs (F := Ideal)) (onTc (τ := Cert.AttnIdeal.τ) (Cert.AttnIdeal.main (F := Ideal))) ⟨m, fun _ => 0, ρ⟩ (fun r => ∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)) :=
  (θ_run Cert.AttnIdeal.defs _ _).mono (fun _ h => h.1) (Cert.AttnIdeal.Step.frame m ρ)

theorem value_Attn : Cert.algebraic_AttnIdeal_AttnRefIdeal_pre_finite_inputs := by
  intro m ρ m' ρ' hpre hagree
  refine ⟨fun c => Cert.AttnRefIdeal.Value.attention (m ((c.tc : Thread Cert.AttnIdeal.nD Cert.AttnIdeal.τ).loc Cert.AttnIdeal.main_arg0))
      (m ((c.tc : Thread Cert.AttnIdeal.nD Cert.AttnIdeal.τ).loc Cert.AttnIdeal.main_arg1)) (m ((c.tc : Thread Cert.AttnIdeal.nD Cert.AttnIdeal.τ).loc Cert.AttnIdeal.main_arg2)), ?_, ?_⟩
  · refine (θ_run Cert.AttnIdeal.defs _ _).mono (fun r h c => ⟨((h.1 c).1 5).trans (value_AttnIdeal m hpre c), h.2 c⟩)
      (θ_run_and (Cert.AttnIdeal.Step.run_main m ρ) (frame_kept m ρ))
  · refine (θ_run Cert.AttnRefIdeal.defs _ _).mono (fun r h c => ⟨(h c).1.trans ?_, (h c).2⟩) (Cert.AttnRefIdeal.Value.run (F := Ideal) m' ρ')
    obtain ⟨e0, e1, e2, -, -⟩ := hagree c
    rw [e0, e1, e2]
    rfl

end Cert.Proof

end
-- ==== Proof.FfnRow.lean ====
/- One row of the feed-forward part: the normed and modulated row, the depthwise convolution of three rows' products, the gate,
   the down projection with its norm and the residual; and the gate's two forms. -/
module

public import Idealize.ShloMosaic.Lib.Pointwise
public import Idealize.ShloMosaic.Lib.IdealHost

@[expose] public section

noncomputable section

namespace Cert.FfnRow

open Idealize.ShloMosaic

/-- The normed row, modulated. -/
def normed (x g sc sh : Fin 1024 → EReal) (e : Fin 1024) : EReal :=
  x e * Ideal.rsqrt (Ideal.div (∑ j, x j * x j) (Ideal.ofBits .f32 0x44800000#32) + Ideal.ofBits .f32 0x358637BD#32) * g e * (1 + sc e) + sh e

/-- One column of the convolution of three rows' products. -/
def conv (hp hm hn w : Fin 1024 → EReal) (w0 w1 w2 b : EReal) : EReal :=
  (∑ e, hp e * w e) * w0 + (∑ e, hm e * w e) * w1 + (∑ e, hn e * w e) * w2 + b

/-- The gate as the kernel computes it, at half of the second factor. -/
def act (a g : EReal) : EReal :=
  a * (1 + Ideal.tanh (a * (Ideal.ofBits .f32 0x3F4C422A#32 + ((80338380498831 / 2251799813685248 : ℝ) : EReal) * (a * a)))) * g

/-- The gate as the reference computes it. -/
def gelu (a b : EReal) : EReal :=
  a * (Ideal.ofBits .f32 0x3F000000#32 * (1 + Ideal.tanh (Ideal.ofBits .f32 0x3F4C422A#32 * (a + Ideal.ofBits .f32 0x3D372713#32 * (a * a * a))))) * b

/-- The row's result from its gated columns. -/
def out (x gt gp : Fin 1024 → EReal) (wd : Fin 2816 → Fin 1024 → EReal) (a : Fin 2816 → EReal) (c : Fin 1024) : EReal :=
  x c + gt c * ((∑ j, a j * wd j c) * Ideal.rsqrt (Ideal.div (∑ k, (∑ j, a j * wd j k) * (∑ j, a j * wd j k)) (Ideal.ofBits .f32 0x44800000#32)
    + Ideal.ofBits .f32 0x358637BD#32) * gp c)

theorem out_congr {x x' gt gt' gp gp' : Fin 1024 → EReal} {wd wd' : Fin 2816 → Fin 1024 → EReal} {a a' : Fin 2816 → EReal} {c c' : Fin 1024}
    (h1 : ∀ e, x e = x' e) (h2 : ∀ e, gt e = gt' e) (h3 : ∀ e, gp e = gp' e) (h4 : ∀ j e, wd j e = wd' j e) (h5 : ∀ j, a j = a' j) (h6 : c = c') :
    out x gt gp wd a c = out x' gt' gp' wd' a' c' := by
  rw [funext h1, funext h2, funext h3, funext fun j => funext (h4 j), funext h5, h6]

theorem normed_congr {x x' g g' sc sc' sh sh' : Fin 1024 → EReal} {e : Fin 1024} (h1 : ∀ e, x e = x' e) (h2 : ∀ e, g e = g' e) (h3 : ∀ e, sc e = sc' e)
    (h4 : ∀ e, sh e = sh' e) : normed x g sc sh e = normed x' g' sc' sh' e := by
  rw [funext h1, funext h2, funext h3, funext h4]

theorem conv_congr {hp hp' hm hm' hn hn' w w' : Fin 1024 → EReal} {w0 w0' w1 w1' w2 w2' b b' : EReal} (h1 : ∀ e, hp e = hp' e) (h2 : ∀ e, hm e = hm' e)
    (h3 : ∀ e, hn e = hn' e) (h4 : ∀ e, w e = w' e) (h5 : w0 = w0') (h6 : w1 = w1') (h7 : w2 = w2') (h8 : b = b') :
    conv hp hm hn w w0 w1 w2 b = conv hp' hm' hn' w' w0' w1' w2' b' := by
  rw [funext h1, funext h2, funext h3, funext h4, h5, h6, h7, h8]

/-! ## The gate -/

theorem half : Ideal.ofBits .f32 0x3F000000#32 = ((1 / 2 : ℝ) : EReal) := by
  simp [Ideal.ofBits, Ideal.ieee, -EReal.coe_mul]; norm_num

theorem c1 : Ideal.ofBits .f32 0x3F4C422A#32 = ((13386282 / 16777216 : ℝ) : EReal) := by
  simp [Ideal.ofBits, Ideal.ieee, -EReal.coe_mul]; norm_num

theorem k3 : Ideal.ofBits .f32 0x3D372713#32 = ((12003091 / 268435456 : ℝ) : EReal) := by
  simp [Ideal.ofBits, Ideal.ieee, -EReal.coe_mul]; norm_num

/-- The two arguments of the hyperbolic tangent agree, infinities included. -/
theorem arg_eq (a : EReal) : a * (Ideal.ofBits .f32 0x3F4C422A#32 + ((80338380498831 / 2251799813685248 : ℝ) : EReal) * (a * a))
    = Ideal.ofBits .f32 0x3F4C422A#32 * (a + Ideal.ofBits .f32 0x3D372713#32 * (a * a * a)) := by
  rw [c1, k3]
  induction a using EReal.rec with
  | bot =>
    rw [show (⊥ : EReal) * ⊥ = ⊤ from rfl, show (⊤ : EReal) * ⊥ = ⊥ from rfl, EReal.coe_mul_top_of_pos (by norm_num), EReal.coe_mul_bot_of_pos (by norm_num),
      EReal.coe_add_top, show (⊥ : EReal) + ⊥ = ⊥ from rfl, EReal.coe_mul_bot_of_pos (by norm_num)]
    rfl
  | top =>
    rw [show (⊤ : EReal) * ⊤ = ⊤ from rfl, show (⊤ : EReal) * ⊤ = ⊤ from rfl, EReal.coe_mul_top_of_pos (by norm_num), EReal.coe_mul_top_of_pos (by norm_num),
      EReal.coe_add_top, show (⊤ : EReal) + ⊤ = ⊤ from rfl, EReal.coe_mul_top_of_pos (by norm_num)]
    rfl
  | coe r =>
    rw [← EReal.coe_mul, ← EReal.coe_mul, ← EReal.coe_mul, ← EReal.coe_mul, ← EReal.coe_add, ← EReal.coe_add, ← EReal.coe_mul, ← EReal.coe_mul]
    congr 1; ring

/-- The kernel's gate at half of the second factor is the reference's gate. -/
theorem act_half (a b : EReal) : act a (Ideal.ofBits .f32 0x3F000000#32 * b) = gelu a b := by
  unfold act gelu
  rw [arg_eq, mul_comm (Ideal.ofBits .f32 0x3F000000#32) (1 + _), ← mul_assoc, mul_assoc a (1 + _)]

/-- Halving the taps and the bias halves the column. -/
theorem conv_half (hp hm hn w : Fin 1024 → EReal) (w0 w1 w2 b : EReal) :
    conv hp hm hn w (Ideal.ofBits .f32 0x3F000000#32 * w0) (Ideal.ofBits .f32 0x3F000000#32 * w1) (Ideal.ofBits .f32 0x3F000000#32 * w2) (Ideal.ofBits .f32 0x3F000000#32 * b)
      = Ideal.ofBits .f32 0x3F000000#32 * conv hp hm hn w w0 w1 w2 b := by
  have hd : ∀ x y : EReal, Ideal.ofBits .f32 0x3F000000#32 * (x + y) = Ideal.ofBits .f32 0x3F000000#32 * x + Ideal.ofBits .f32 0x3F000000#32 * y := fun x y => by
    rw [half]; exact EReal.left_distrib_of_nonneg_of_ne_top (by exact_mod_cast (by norm_num : (0 : ℝ) ≤ 1 / 2)) (EReal.coe_ne_top _) x y
  unfold conv
  rw [hd, hd, hd, mul_left_comm, mul_left_comm (∑ e, hm e * w e), mul_left_comm (∑ e, hn e * w e)]

/-! ## The whole array -/

/-- The normed row before row `n` of the sequence, zero outside it. -/
def hrow (x : (⟨3, ![32, 2048, 1024]⟩ : Shape).Idx → EReal) (sh sc : (⟨3, ![32, 1, 1024]⟩ : Shape).Idx → EReal) (g : (⟨1, ![1024]⟩ : Shape).Idx → EReal)
    (b : Fin 32) (n : ℕ) (e : Fin 1024) : EReal :=
  if h : 1 ≤ n ∧ n < 2049 then normed (fun e => x (ix3 b ⟨n - 1, by omega⟩ e)) (fun e => g (ix1 e)) (fun e => sc (ix3 b 0 e)) (fun e => sh (ix3 b 0 e)) e else 0

/-- A column of the convolution at a row of the sequence. -/
def col (x : (⟨3, ![32, 2048, 1024]⟩ : Shape).Idx → EReal) (sh sc : (⟨3, ![32, 1, 1024]⟩ : Shape).Idx → EReal) (g : (⟨1, ![1024]⟩ : Shape).Idx → EReal)
    (wu : (⟨2, ![1024, 5632]⟩ : Shape).Idx → EReal) (wc : (⟨2, ![3, 5632]⟩ : Shape).Idx → EReal) (bc : (⟨1, ![5632]⟩ : Shape).Idx → EReal)
    (b : Fin 32) (r : Fin 2048) (j : Fin 5632) : EReal :=
  conv (hrow x sh sc g b r.val) (hrow x sh sc g b (r.val + 1)) (hrow x sh sc g b (r.val + 2)) (fun e => wu (ix2 e j)) (wc (ix2 0 j)) (wc (ix2 1 j)) (wc (ix2 2 j)) (bc (ix1 j))

def array (x : (⟨3, ![32, 2048, 1024]⟩ : Shape).Idx → EReal) (sh sc gt : (⟨3, ![32, 1, 1024]⟩ : Shape).Idx → EReal) (g gp : (⟨1, ![1024]⟩ : Shape).Idx → EReal)
    (wu : (⟨2, ![1024, 5632]⟩ : Shape).Idx → EReal) (wc : (⟨2, ![3, 5632]⟩ : Shape).Idx → EReal) (bc : (⟨1, ![5632]⟩ : Shape).Idx → EReal)
    (wd : (⟨2, ![2816, 1024]⟩ : Shape).Idx → EReal) (y : (⟨3, ![32, 2048, 1024]⟩ : Shape).Idx) : EReal :=
  out (fun e => x (ix3 (y 0) (y 1) e)) (fun e => gt (ix3 (y 0) 0 e)) (fun e => gp (ix1 e)) (fun j e => wd (ix2 j e))
    (fun j => gelu (col x sh sc g wu wc bc (y 0) (y 1) ⟨j.val, by omega⟩) (col x sh sc g wu wc bc (y 0) (y 1) ⟨2816 + j.val, by omega⟩)) (y 2)

end Cert.FfnRow

end
-- ==== Proof.FfnIdealTile.lean ====
/- The feed-forward call's stores, read at an index. -/
module

public import proofs.«01_k».proof.Proof.FfnRow
public import proofs.«01_k».proof.Proof.Gen.FfnIdeal.Frame

@[expose] public section

set_option maxRecDepth 16384

noncomputable section

namespace Cert.FfnIdeal.Step

open Idealize.ShloMosaic Idealize.ShloMosaic.TcCoe Cert.FfnIdeal Cert.FfnIdeal.Gen

section

variable {F : FTy → Type} [FloatOps F] [Named F]

/-- The convolved product of the extended rows. -/
def convOf (he : FVec F S1040x1024 .bf16) (v48 : Vec F S1024x256 .bf16) (v56 v60 v65 v70 : Vec F S1x256 .f32) : FVec F S1024x256 .f32 :=
  have v49 : FVec F S1024x256 .bf16 := shapeCast S1024x256 v48 shapeCasts_S1024x256_S1024x256
  have cst_22 : FVec F S1040x256 .f32 := constant S1040x256 .f32 0x00000000#32
  have v50 : FVec F S1040x256 .f32 := matmul dot_S1040x1024_S1024x256_S1040x256_1_0_0_1_n_n none he v49 cst_22
  have v51 : FVec F S1040x256 .f32 := dynamicRotate 0 1#32 none v50 rotates_S1040x256_d0
  have v52 : FVec F S1024x256 .f32 := extractStridedSlice S1024x256 ![8, 0] v51 slices_S1040x256_o8_0_S1024x256
  have v53 : FVec F S1040x256 .f32 := dynamicRotate 0 1039#32 none v50 rotates_S1040x256_d0
  have v54 : FVec F S1024x256 .f32 := extractStridedSlice S1024x256 ![8, 0] v53 slices_S1040x256_o8_0_S1024x256
  have v55 : FVec F S1024x256 .f32 := extractStridedSlice S1024x256 ![8, 0] v50 slices_S1040x256_o8_0_S1024x256
  have v57 : FVec F S1x256 .f32 := shapeCast S1x256 v56 shapeCasts_S1x256_S1x256
  have v58 : FVec F S1024x256 .f32 := broadcastTo S1024x256 v57 broadcasts_S1x256_S1024x256
  have v59 : FVec F S1024x256 .f32 := mulf v52 v58
  have v61 : FVec F S1x256 .f32 := shapeCast S1x256 v60 shapeCasts_S1x256_S1x256
  have v62 : FVec F S1024x256 .f32 := broadcastTo S1024x256 v61 broadcasts_S1x256_S1024x256
  have v63 : FVec F S1024x256 .f32 := mulf v55 v62
  have v64 : FVec F S1024x256 .f32 := addf v59 v63
  have v66 : FVec F S1x256 .f32 := shapeCast S1x256 v65 shapeCasts_S1x256_S1x256
  have v67 : FVec F S1024x256 .f32 := broadcastTo S1024x256 v66 broadcasts_S1x256_S1024x256
  have v68 : FVec F S1024x256 .f32 := mulf v54 v67
  have v69 : FVec F S1024x256 .f32 := addf v64 v68
  have v71 : FVec F S1x256 .f32 := shapeCast S1x256 v70 shapeCasts_S1x256_S1x256
  have v72 : FVec F S1024x256 .f32 := broadcastTo S1024x256 v71 broadcasts_S1x256_S1024x256
  addf v69 v72

/-- The extended rows, normed, modulated, masked. -/
def heOf (a : BitVec 32) (x1 : Vec F S1x1024x1024 .f32) (x0 x2 : Vec F S1x8x1024 .f32) (g : Vec F S1x1024 .f32) (sc sh : Vec F S1x1x1024 .f32) : FVec F S1040x1024 .bf16 :=
  k0_pay5 a (k0_pay3 x1 x0 x2 g sc sh) (iota .tc S1040x1 32 [0] iota_S1040x1_d0_w32) k0_pay4 (Scalar.cmpi .sgt a 0#32)

/-- What one chunk stores. -/
def chunkOf (he : FVec F S1040x1024 .bf16) (wa : Vec F S1024x256 .bf16) (pa ma na ba : Vec F S1x256 .f32) (wb : Vec F S1024x256 .bf16) (pb mb nb bb : Vec F S1x256 .f32) :
    FVec F S1024x256 .bf16 :=
  k0_pay8 he (convOf he wa pa ma na ba) (k0_pay7 wb) (constant S1040x256 .f32 0x00000000#32) pb mb nb bb

/-- The gate of two convolved columns. -/
def gateOf (v73 v99 : FVec F S1024x256 .f32) : FVec F S1024x256 .f32 :=
  have v100 : FVec F S1024x256 .f32 := mulf v73 v73
  have cst_43 : F .f32 := Named.named κ "gelu_c3" 0x3D122279#32
  have v101 : FVec F S1024x256 .f32 := broadcast S1024x256 cst_43
  have v102 : FVec F S1024x256 .f32 := mulf v101 v100
  have cst_44 : F .f32 := Scalar.ofBits .f32 0x3F4C422A#32
  have v103 : FVec F S1024x256 .f32 := broadcast S1024x256 cst_44
  have v104 : FVec F S1024x256 .f32 := addf v103 v102
  have v105 : FVec F S1024x256 .f32 := mulf v73 v104
  have v106 : FVec F S1024x256 .f32 := tanh v105
  have cst_45 : F .f32 := Scalar.ofBits .f32 0x3F800000#32
  have v107 : FVec F S1024x256 .f32 := broadcast S1024x256 cst_45
  have v108 : FVec F S1024x256 .f32 := addf v107 v106
  have v109 : FVec F S1024x256 .f32 := mulf v73 v108
  mulf v109 v99

end

theorem convOf_apply (he : FVec Ideal S1040x1024 .bf16) (w : Vec Ideal S1024x256 .bf16) (p q n b : Vec Ideal S1x256 .f32) (r : Fin 1024) (d : Fin 256) :
    convOf he w p q n b (ix2 r d) = FfnRow.conv (fun e => he (ix2 ⟨r.val + 7, by omega⟩ e)) (fun e => he (ix2 ⟨r.val + 8, by omega⟩ e)) (fun e => he (ix2 ⟨r.val + 9, by omega⟩ e))
      (fun e => w (ix2 e d)) (p (ix2 0 d)) (q (ix2 0 d)) (n (ix2 0 d)) (b (ix2 0 d)) := by
  unfold FfnRow.conv
  pointwise [convOf]
  have h1 : (⟨(8 + r.val + 1040 - 1) % 1040, Nat.mod_lt _ (by decide)⟩ : Fin 1040) = ⟨r.val + 7, by omega⟩ := Fin.ext (by show (8 + r.val + 1040 - 1) % 1040 = r.val + 7; omega)
  have h2 : (⟨(8 + r.val + 1040 - 1039) % 1040, Nat.mod_lt _ (by decide)⟩ : Fin 1040) = ⟨r.val + 9, by omega⟩ := Fin.ext (by show (8 + r.val + 1040 - 1039) % 1040 = r.val + 9; omega)
  have h3 : (⟨8 + r.val, by omega⟩ : Fin 1040) = ⟨r.val + 8, by omega⟩ := Fin.ext (by show 8 + r.val = r.val + 8; omega)
  rw [h1, h2, h3]

theorem named_c3 : Named.named (F := Ideal) κ "gelu_c3" (φ := .f32) 0x3D122279#32 = ((80338380498831 / 2251799813685248 : ℝ) : EReal) := rfl

theorem chunkOf_apply (he : FVec Ideal S1040x1024 .bf16) (wa : Vec Ideal S1024x256 .bf16) (pa ma na ba : Vec Ideal S1x256 .f32) (wb : Vec Ideal S1024x256 .bf16)
    (pb mb nb bb : Vec Ideal S1x256 .f32) (r : Fin 1024) (d : Fin 256) :
    chunkOf he wa pa ma na ba wb pb mb nb bb (ix2 r d) = FfnRow.act (convOf he wa pa ma na ba (ix2 r d)) (convOf he wb pb mb nb bb (ix2 r d)) := by
  have e : chunkOf he wa pa ma na ba wb pb mb nb bb = truncf .bf16 (gateOf (convOf he wa pa ma na ba) (convOf he wb pb mb nb bb)) bitsLt_bf16_f32 := by
    unfold chunkOf k0_pay8 gateOf
    funext y
    idx_vars y
    rename Fin 1024 => r
    rename Fin 256 => d
    pointwise
    rw [convOf_apply he wb]
    unfold FfnRow.conv
    pointwise [k0_pay7]
    have h1 : (⟨(8 + r.val + 1040 - 1) % 1040, Nat.mod_lt _ (by decide)⟩ : Fin 1040) = ⟨r.val + 7, by omega⟩ := Fin.ext (by show (8 + r.val + 1040 - 1) % 1040 = r.val + 7; omega)
    have h2 : (⟨(8 + r.val + 1040 - 1039) % 1040, Nat.mod_lt _ (by decide)⟩ : Fin 1040) = ⟨r.val + 9, by omega⟩ := Fin.ext (by show (8 + r.val + 1040 - 1039) % 1040 = r.val + 9; omega)
    have h3 : (⟨8 + r.val, by omega⟩ : Fin 1040) = ⟨r.val + 8, by omega⟩ := Fin.ext (by show 8 + r.val = r.val + 8; omega)
    rw [h1, h2, h3]
  rw [e]
  generalize convOf he wa pa ma na ba = A
  generalize convOf he wb pb mb nb bb = B
  unfold FfnRow.act
  rw [← named_c3]
  pointwise [gateOf]

/-- The extended rows before the norm: the eight rows above the block, the block, the eight below. -/
def xe (x1 : Vec Ideal S1x1024x1024 .f32) (x0 x2 : Vec Ideal S1x8x1024 .f32) (r : Fin 1040) (e : Fin 1024) : EReal :=
  if h : r.val < 8 then x0 (ix3 0 ⟨r.val, h⟩ e) else if h' : r.val - 8 < 1024 then x1 (ix3 0 ⟨r.val - 8, h'⟩ e) else x2 (ix3 0 ⟨r.val - 8 - 1024, by omega⟩ e)

/-- The mask lets through the rows inside the sequence. -/
theorem mask_eq : ∀ (i : Fin 2) (r : Fin 1040), IntOp.andi
        (IntOp.ori (IntOp.cmpi CmpIPredicate.sge (BitVec.ofNat 32 r.val) 8#32) (Scalar.cmpi CmpIPredicate.sgt (BitVec.ofNat 32 i.val) 0#32))
        (IntOp.ori (IntOp.cmpi CmpIPredicate.slt (BitVec.ofNat 32 r.val) 1032#32) (Scalar.cmpi CmpIPredicate.slt (BitVec.ofNat 32 i.val) 1#32))
    = if 8 ≤ 1024 * i.val + r.val ∧ 1024 * i.val + r.val < 2056 then 1#1 else 0#1 := by decide +kernel

theorem heOf_apply (i : Fin 2) (x1 : Vec Ideal S1x1024x1024 .f32) (x0 x2 : Vec Ideal S1x8x1024 .f32) (g : Vec Ideal S1x1024 .f32) (sc sh : Vec Ideal S1x1x1024 .f32)
    (r : Fin 1040) (e : Fin 1024) : heOf (BitVec.ofNat 32 i.val) x1 x0 x2 g sc sh (ix2 r e)
      = if 8 ≤ 1024 * i.val + r.val ∧ 1024 * i.val + r.val < 2056
        then FfnRow.normed (xe x1 x0 x2 r) (fun e => g (ix2 0 e)) (fun e => sc (ix3 0 0 e)) (fun e => sh (ix3 0 0 e)) e else 0 := by
  have hm := mask_eq i r
  unfold FfnRow.normed
  pointwise [heOf, k0_pay5, k0_pay3, k0_pay4, k0_pay2, xe]
  rw [hm]
  split <;> rfl

theorem result_apply (x1 : Vec Ideal S1x1024x1024 .f32) (act : Vec Ideal S1024x2816 .bf16) (wd : Vec Ideal S2816x1024 .bf16) (gt : Vec Ideal S1x1x1024 .f32)
    (gp : Vec Ideal S1x1024 .f32) (r : Fin 1024) (c : Fin 1024) :
    k0_pay1 (k0_pay2 x1) (k0_pay72 act wd gt gp) (ix3 0 r c)
      = FfnRow.out (fun e => x1 (ix3 0 r e)) (fun e => gt (ix3 0 0 e)) (fun e => gp (ix2 0 e)) (fun j e => wd (ix2 j e)) (fun j => act (ix2 r j)) c := by
  unfold FfnRow.out
  pointwise [k0_pay1, k0_pay2, k0_pay72]

end Cert.FfnIdeal.Step

end
-- ==== Proof.FfnIdealValue.lean ====
/- What a step of the feed-forward call leaves in its block. -/
module

public import proofs.«01_k».proof.Proof.FfnIdealTile
public import Idealize.ShloMosaic.Lib.Pipeline.ValueKit.Geometry

@[expose] public section

set_option maxRecDepth 16384

noncomputable section

namespace Cert.FfnIdeal.Step

open Idealize.ShloMosaic Idealize.ShloMosaic.TcCoe Cert.FfnIdeal Cert.FfnIdeal.Gen

section

variable {F : FTy → Type} [FloatOps F] [Named F] (a : BitVec 32) (x0 : Vec F S1x8x1024 .f32) (x1 : Vec F S1x1024x1024 .f32) (x2 : Vec F S1x8x1024 .f32)
  (x3 : Vec F S1x1x1024 .f32) (x4 : Vec F S1x1x1024 .f32) (x5 : Vec F S1x1x1024 .f32) (x6 : Vec F S1x1024 .f32) (x7 : Vec F S1x1024 .f32)
  (x8 : Vec F S1024x2816 .bf16) (x9 : Vec F S1024x2816 .bf16) (x10 : Vec F S3x2816 .f32) (x11 : Vec F S3x2816 .f32) (x12 : Vec F S1x2816 .f32)
  (x13 : Vec F S1x2816 .f32) (x14 : Vec F S2816x1024 .bf16)

/-- The extended rows of the block. -/
def he : FVec F S1040x1024 .bf16 :=
  heOf a (View.ld x1 (Rect.unit ![0, 0, 0] S1x1024x1024.size inb_S1x1024x1024_S1x1024x1024_0_0_0)) (View.ld x0 (Rect.unit ![0, 0, 0] S1x8x1024.size inb_S1x8x1024_S1x8x1024_0_0_0))
    (View.ld x2 (Rect.unit ![0, 0, 0] S1x8x1024.size inb_S1x8x1024_S1x8x1024_0_0_0)) (View.ld x6 (Rect.unit ![0, 0] S1x1024.size inb_S1x1024_S1x1024_0_0))
    (View.ld x4 (Rect.unit ![0, 0, 0] S1x1x1024.size inb_S1x1x1024_S1x1x1024_0_0_0)) (View.ld x3 (Rect.unit ![0, 0, 0] S1x1x1024.size inb_S1x1x1024_S1x1x1024_0_0_0))

/-- The chunks stored, the last first. -/
def chunks : List (View.Piece (Elt F) S1024x2816 .bf16) := [
  ⟨Rect.unit ![0, 2560] S1024x256.size inb_S1024x2816_S1024x256_0_2560, chunkOf (he a x0 x1 x2 x3 x4 x6)
    (View.ld x8 (Rect.unit ![0, 2560] S1024x256.size inb_S1024x2816_S1024x256_0_2560)) (View.ld x10 (Rect.unit ![0, 2560] S1x256.size inb_S3x2816_S1x256_0_2560)) (View.ld x10 (Rect.unit ![1, 2560] S1x256.size inb_S3x2816_S1x256_1_2560))
    (View.ld x10 (Rect.unit ![2, 2560] S1x256.size inb_S3x2816_S1x256_2_2560)) (View.ld x12 (Rect.unit ![0, 2560] S1x256.size inb_S1x2816_S1x256_0_2560)) (View.ld x9 (Rect.unit ![0, 2560] S1024x256.size inb_S1024x2816_S1024x256_0_2560))
    (View.ld x11 (Rect.unit ![0, 2560] S1x256.size inb_S3x2816_S1x256_0_2560)) (View.ld x11 (Rect.unit ![1, 2560] S1x256.size inb_S3x2816_S1x256_1_2560))
    (View.ld x11 (Rect.unit ![2, 2560] S1x256.size inb_S3x2816_S1x256_2_2560)) (View.ld x13 (Rect.unit ![0, 2560] S1x256.size inb_S1x2816_S1x256_0_2560))⟩,
  ⟨Rect.unit ![0, 2304] S1024x256.size inb_S1024x2816_S1024x256_0_2304, chunkOf (he a x0 x1 x2 x3 x4 x6)
    (View.ld x8 (Rect.unit ![0, 2304] S1024x256.size inb_S1024x2816_S1024x256_0_2304)) (View.ld x10 (Rect.unit ![0, 2304] S1x256.size inb_S3x2816_S1x256_0_2304)) (View.ld x10 (Rect.unit ![1, 2304] S1x256.size inb_S3x2816_S1x256_1_2304))
    (View.ld x10 (Rect.unit ![2, 2304] S1x256.size inb_S3x2816_S1x256_2_2304)) (View.ld x12 (Rect.unit ![0, 2304] S1x256.size inb_S1x2816_S1x256_0_2304)) (View.ld x9 (Rect.unit ![0, 2304] S1024x256.size inb_S1024x2816_S1024x256_0_2304))
    (View.ld x11 (Rect.unit ![0, 2304] S1x256.size inb_S3x2816_S1x256_0_2304)) (View.ld x11 (Rect.unit ![1, 2304] S1x256.size inb_S3x2816_S1x256_1_2304))
    (View.ld x11 (Rect.unit ![2, 2304] S1x256.size inb_S3x2816_S1x256_2_2304)) (View.ld x13 (Rect.unit ![0, 2304] S1x256.size inb_S1x2816_S1x256_0_2304))⟩,
  ⟨Rect.unit ![0, 2048] S1024x256.size inb_S1024x2816_S1024x256_0_2048, chunkOf (he a x0 x1 x2 x3 x4 x6)
    (View.ld x8 (Rect.unit ![0, 2048] S1024x256.size inb_S1024x2816_S1024x256_0_2048)) (View.ld x10 (Rect.unit ![0, 2048] S1x256.size inb_S3x2816_S1x256_0_2048)) (View.ld x10 (Rect.unit ![1, 2048] S1x256.size inb_S3x2816_S1x256_1_2048))
    (View.ld x10 (Rect.unit ![2, 2048] S1x256.size inb_S3x2816_S1x256_2_2048)) (View.ld x12 (Rect.unit ![0, 2048] S1x256.size inb_S1x2816_S1x256_0_2048)) (View.ld x9 (Rect.unit ![0, 2048] S1024x256.size inb_S1024x2816_S1024x256_0_2048))
    (View.ld x11 (Rect.unit ![0, 2048] S1x256.size inb_S3x2816_S1x256_0_2048)) (View.ld x11 (Rect.unit ![1, 2048] S1x256.size inb_S3x2816_S1x256_1_2048))
    (View.ld x11 (Rect.unit ![2, 2048] S1x256.size inb_S3x2816_S1x256_2_2048)) (View.ld x13 (Rect.unit ![0, 2048] S1x256.size inb_S1x2816_S1x256_0_2048))⟩,
  ⟨Rect.unit ![0, 1792] S1024x256.size inb_S1024x2816_S1024x256_0_1792, chunkOf (he a x0 x1 x2 x3 x4 x6)
    (View.ld x8 (Rect.unit ![0, 1792] S1024x256.size inb_S1024x2816_S1024x256_0_1792)) (View.ld x10 (Rect.unit ![0, 1792] S1x256.size inb_S3x2816_S1x256_0_1792)) (View.ld x10 (Rect.unit ![1, 1792] S1x256.size inb_S3x2816_S1x256_1_1792))
    (View.ld x10 (Rect.unit ![2, 1792] S1x256.size inb_S3x2816_S1x256_2_1792)) (View.ld x12 (Rect.unit ![0, 1792] S1x256.size inb_S1x2816_S1x256_0_1792)) (View.ld x9 (Rect.unit ![0, 1792] S1024x256.size inb_S1024x2816_S1024x256_0_1792))
    (View.ld x11 (Rect.unit ![0, 1792] S1x256.size inb_S3x2816_S1x256_0_1792)) (View.ld x11 (Rect.unit ![1, 1792] S1x256.size inb_S3x2816_S1x256_1_1792))
    (View.ld x11 (Rect.unit ![2, 1792] S1x256.size inb_S3x2816_S1x256_2_1792)) (View.ld x13 (Rect.unit ![0, 1792] S1x256.size inb_S1x2816_S1x256_0_1792))⟩,
  ⟨Rect.unit ![0, 1536] S1024x256.size inb_S1024x2816_S1024x256_0_1536, chunkOf (he a x0 x1 x2 x3 x4 x6)
    (View.ld x8 (Rect.unit ![0, 1536] S1024x256.size inb_S1024x2816_S1024x256_0_1536)) (View.ld x10 (Rect.unit ![0, 1536] S1x256.size inb_S3x2816_S1x256_0_1536)) (View.ld x10 (Rect.unit ![1, 1536] S1x256.size inb_S3x2816_S1x256_1_1536))
    (View.ld x10 (Rect.unit ![2, 1536] S1x256.size inb_S3x2816_S1x256_2_1536)) (View.ld x12 (Rect.unit ![0, 1536] S1x256.size inb_S1x2816_S1x256_0_1536)) (View.ld x9 (Rect.unit ![0, 1536] S1024x256.size inb_S1024x2816_S1024x256_0_1536))
    (View.ld x11 (Rect.unit ![0, 1536] S1x256.size inb_S3x2816_S1x256_0_1536)) (View.ld x11 (Rect.unit ![1, 1536] S1x256.size inb_S3x2816_S1x256_1_1536))
    (View.ld x11 (Rect.unit ![2, 1536] S1x256.size inb_S3x2816_S1x256_2_1536)) (View.ld x13 (Rect.unit ![0, 1536] S1x256.size inb_S1x2816_S1x256_0_1536))⟩,
  ⟨Rect.unit ![0, 1280] S1024x256.size inb_S1024x2816_S1024x256_0_1280, chunkOf (he a x0 x1 x2 x3 x4 x6)
    (View.ld x8 (Rect.unit ![0, 1280] S1024x256.size inb_S1024x2816_S1024x256_0_1280)) (View.ld x10 (Rect.unit ![0, 1280] S1x256.size inb_S3x2816_S1x256_0_1280)) (View.ld x10 (Rect.unit ![1, 1280] S1x256.size inb_S3x2816_S1x256_1_1280))
    (View.ld x10 (Rect.unit ![2, 1280] S1x256.size inb_S3x2816_S1x256_2_1280)) (View.ld x12 (Rect.unit ![0, 1280] S1x256.size inb_S1x2816_S1x256_0_1280)) (View.ld x9 (Rect.unit ![0, 1280] S1024x256.size inb_S1024x2816_S1024x256_0_1280))
    (View.ld x11 (Rect.unit ![0, 1280] S1x256.size inb_S3x2816_S1x256_0_1280)) (View.ld x11 (Rect.unit ![1, 1280] S1x256.size inb_S3x2816_S1x256_1_1280))
    (View.ld x11 (Rect.unit ![2, 1280] S1x256.size inb_S3x2816_S1x256_2_1280)) (View.ld x13 (Rect.unit ![0, 1280] S1x256.size inb_S1x2816_S1x256_0_1280))⟩,
  ⟨Rect.unit ![0, 1024] S1024x256.size inb_S1024x2816_S1024x256_0_1024, chunkOf (he a x0 x1 x2 x3 x4 x6)
    (View.ld x8 (Rect.unit ![0, 1024] S1024x256.size inb_S1024x2816_S1024x256_0_1024)) (View.ld x10 (Rect.unit ![0, 1024] S1x256.size inb_S3x2816_S1x256_0_1024)) (View.ld x10 (Rect.unit ![1, 1024] S1x256.size inb_S3x2816_S1x256_1_1024))
    (View.ld x10 (Rect.unit ![2, 1024] S1x256.size inb_S3x2816_S1x256_2_1024)) (View.ld x12 (Rect.unit ![0, 1024] S1x256.size inb_S1x2816_S1x256_0_1024)) (View.ld x9 (Rect.unit ![0, 1024] S1024x256.size inb_S1024x2816_S1024x256_0_1024))
    (View.ld x11 (Rect.unit ![0, 1024] S1x256.size inb_S3x2816_S1x256_0_1024)) (View.ld x11 (Rect.unit ![1, 1024] S1x256.size inb_S3x2816_S1x256_1_1024))
    (View.ld x11 (Rect.unit ![2, 1024] S1x256.size inb_S3x2816_S1x256_2_1024)) (View.ld x13 (Rect.unit ![0, 1024] S1x256.size inb_S1x2816_S1x256_0_1024))⟩,
  ⟨Rect.unit ![0, 768] S1024x256.size inb_S1024x2816_S1024x256_0_768, chunkOf (he a x0 x1 x2 x3 x4 x6)
    (View.ld x8 (Rect.unit ![0, 768] S1024x256.size inb_S1024x2816_S1024x256_0_768)) (View.ld x10 (Rect.unit ![0, 768] S1x256.size inb_S3x2816_S1x256_0_768)) (View.ld x10 (Rect.unit ![1, 768] S1x256.size inb_S3x2816_S1x256_1_768))
    (View.ld x10 (Rect.unit ![2, 768] S1x256.size inb_S3x2816_S1x256_2_768)) (View.ld x12 (Rect.unit ![0, 768] S1x256.size inb_S1x2816_S1x256_0_768)) (View.ld x9 (Rect.unit ![0, 768] S1024x256.size inb_S1024x2816_S1024x256_0_768))
    (View.ld x11 (Rect.unit ![0, 768] S1x256.size inb_S3x2816_S1x256_0_768)) (View.ld x11 (Rect.unit ![1, 768] S1x256.size inb_S3x2816_S1x256_1_768))
    (View.ld x11 (Rect.unit ![2, 768] S1x256.size inb_S3x2816_S1x256_2_768)) (View.ld x13 (Rect.unit ![0, 768] S1x256.size inb_S1x2816_S1x256_0_768))⟩,
  ⟨Rect.unit ![0, 512] S1024x256.size inb_S1024x2816_S1024x256_0_512, chunkOf (he a x0 x1 x2 x3 x4 x6)
    (View.ld x8 (Rect.unit ![0, 512] S1024x256.size inb_S1024x2816_S1024x256_0_512)) (View.ld x10 (Rect.unit ![0, 512] S1x256.size inb_S3x2816_S1x256_0_512)) (View.ld x10 (Rect.unit ![1, 512] S1x256.size inb_S3x2816_S1x256_1_512))
    (View.ld x10 (Rect.unit ![2, 512] S1x256.size inb_S3x2816_S1x256_2_512)) (View.ld x12 (Rect.unit ![0, 512] S1x256.size inb_S1x2816_S1x256_0_512)) (View.ld x9 (Rect.unit ![0, 512] S1024x256.size inb_S1024x2816_S1024x256_0_512))
    (View.ld x11 (Rect.unit ![0, 512] S1x256.size inb_S3x2816_S1x256_0_512)) (View.ld x11 (Rect.unit ![1, 512] S1x256.size inb_S3x2816_S1x256_1_512))
    (View.ld x11 (Rect.unit ![2, 512] S1x256.size inb_S3x2816_S1x256_2_512)) (View.ld x13 (Rect.unit ![0, 512] S1x256.size inb_S1x2816_S1x256_0_512))⟩,
  ⟨Rect.unit ![0, 256] S1024x256.size inb_S1024x2816_S1024x256_0_256, chunkOf (he a x0 x1 x2 x3 x4 x6)
    (View.ld x8 (Rect.unit ![0, 256] S1024x256.size inb_S1024x2816_S1024x256_0_256)) (View.ld x10 (Rect.unit ![0, 256] S1x256.size inb_S3x2816_S1x256_0_256)) (View.ld x10 (Rect.unit ![1, 256] S1x256.size inb_S3x2816_S1x256_1_256))
    (View.ld x10 (Rect.unit ![2, 256] S1x256.size inb_S3x2816_S1x256_2_256)) (View.ld x12 (Rect.unit ![0, 256] S1x256.size inb_S1x2816_S1x256_0_256)) (View.ld x9 (Rect.unit ![0, 256] S1024x256.size inb_S1024x2816_S1024x256_0_256))
    (View.ld x11 (Rect.unit ![0, 256] S1x256.size inb_S3x2816_S1x256_0_256)) (View.ld x11 (Rect.unit ![1, 256] S1x256.size inb_S3x2816_S1x256_1_256))
    (View.ld x11 (Rect.unit ![2, 256] S1x256.size inb_S3x2816_S1x256_2_256)) (View.ld x13 (Rect.unit ![0, 256] S1x256.size inb_S1x2816_S1x256_0_256))⟩,
  ⟨Rect.unit ![0, 0] S1024x256.size inb_S1024x2816_S1024x256_0_0, chunkOf (he a x0 x1 x2 x3 x4 x6)
    (View.ld x8 (Rect.unit ![0, 0] S1024x256.size inb_S1024x2816_S1024x256_0_0)) (View.ld x10 (Rect.unit ![0, 0] S1x256.size inb_S3x2816_S1x256_0_0)) (View.ld x10 (Rect.unit ![1, 0] S1x256.size inb_S3x2816_S1x256_1_0))
    (View.ld x10 (Rect.unit ![2, 0] S1x256.size inb_S3x2816_S1x256_2_0)) (View.ld x12 (Rect.unit ![0, 0] S1x256.size inb_S1x2816_S1x256_0_0)) (View.ld x9 (Rect.unit ![0, 0] S1024x256.size inb_S1024x2816_S1024x256_0_0))
    (View.ld x11 (Rect.unit ![0, 0] S1x256.size inb_S3x2816_S1x256_0_0)) (View.ld x11 (Rect.unit ![1, 0] S1x256.size inb_S3x2816_S1x256_1_0))
    (View.ld x11 (Rect.unit ![2, 0] S1x256.size inb_S3x2816_S1x256_2_0)) (View.ld x13 (Rect.unit ![0, 0] S1x256.size inb_S1x2816_S1x256_0_0))⟩]

/-- What the step leaves in its block. -/
def outF : FVec F S1x1024x1024 .f32 :=
  k0_pay1 (k0_pay2 (View.ld x1 (Rect.unit ![0, 0, 0] S1x1024x1024.size inb_S1x1024x1024_S1x1024x1024_0_0_0)))
    (k0_pay72 (View.ld (View.canon (chunks a x0 x1 x2 x3 x4 x6 x8 x9 x10 x11 x12 x13)) (Rect.unit ![0, 0] S1024x2816.size inb_S1024x2816_S1024x2816_0_0))
      (View.ld x14 (Rect.unit ![0, 0] S2816x1024.size inb_S2816x1024_S2816x1024_0_0)) (View.ld x5 (Rect.unit ![0, 0, 0] S1x1x1024.size inb_S1x1x1024_S1x1x1024_0_0_0))
      (View.ld x7 (Rect.unit ![0, 0] S1x1024.size inb_S1x1024_S1x1024_0_0)))

end

section

variable {F : FTy → Type} [FloatOps F] [Named F] (m : (ℓ : Loc nD τ sig) → Buf (Elt F) ℓ) (c : Dev nD) (t : Fin cfg0.N)

set_option maxHeartbeats 4000000 in
/-- What the run of the step leaves, as a function of the operands' blocks. -/
theorem outsAt_eq : outsAt0 m c t = outF (BitVec.ofNat 32 (grid0.coords t 1).val) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t) := by
  unfold outsAt0 out0_A_15 kernelRun0_A
  dsimp only
  rw [View.read_writes_junk_eq_canon]
  rw [View.canon_unit_zero (by decide)]
  unfold kernelRun0_A.sl.r_51 kernelRun0_A.sl.v785 kernelRun0_A.sl.r

  repeat1' (first | unfold kernelRun0_A.sl.HS0_11 | unfold kernelRun0_A.sl.HS0_10 | unfold kernelRun0_A.sl.HS0_9 | unfold kernelRun0_A.sl.HS0_8 | unfold kernelRun0_A.sl.HS0_7 | unfold kernelRun0_A.sl.HS0_6 | unfold kernelRun0_A.sl.HS0_5 | unfold kernelRun0_A.sl.HS0_4 | unfold kernelRun0_A.sl.HS0_3 | unfold kernelRun0_A.sl.HS0_2 | unfold kernelRun0_A.sl.HS0_1 | unfold kernelRun0_A.sl.HS0_0)
  repeat1' (first | unfold kernelRun0_A.sl.r_51 | unfold kernelRun0_A.sl.r_50 | unfold kernelRun0_A.sl.r_49 | unfold kernelRun0_A.sl.r_48 | unfold kernelRun0_A.sl.r_47 | unfold kernelRun0_A.sl.r_46 | unfold kernelRun0_A.sl.r_45 | unfold kernelRun0_A.sl.r_44 | unfold kernelRun0_A.sl.r_43 | unfold kernelRun0_A.sl.r_42 | unfold kernelRun0_A.sl.r_41 | unfold kernelRun0_A.sl.r_40 | unfold kernelRun0_A.sl.r_39 | unfold kernelRun0_A.sl.r_38 | unfold kernelRun0_A.sl.r_37 | unfold kernelRun0_A.sl.r_36 | unfold kernelRun0_A.sl.r_35 | unfold kernelRun0_A.sl.r_34 | unfold kernelRun0_A.sl.r_33 | unfold kernelRun0_A.sl.r_32 | unfold kernelRun0_A.sl.r_31 | unfold kernelRun0_A.sl.r_30 | unfold kernelRun0_A.sl.r_29 | unfold kernelRun0_A.sl.r_28 | unfold kernelRun0_A.sl.r_27 | unfold kernelRun0_A.sl.r_26 | unfold kernelRun0_A.sl.r_25 | unfold kernelRun0_A.sl.r_24 | unfold kernelRun0_A.sl.r_23 | unfold kernelRun0_A.sl.r_22 | unfold kernelRun0_A.sl.r_21 | unfold kernelRun0_A.sl.r_20 | unfold kernelRun0_A.sl.r_19 | unfold kernelRun0_A.sl.r_18 | unfold kernelRun0_A.sl.r_17 | unfold kernelRun0_A.sl.r_16 | unfold kernelRun0_A.sl.r_15 | unfold kernelRun0_A.sl.r_14 | unfold kernelRun0_A.sl.r_13 | unfold kernelRun0_A.sl.r_12 | unfold kernelRun0_A.sl.r_11 | unfold kernelRun0_A.sl.r_10 | unfold kernelRun0_A.sl.r_9 | unfold kernelRun0_A.sl.r_8 | unfold kernelRun0_A.sl.r_7 | unfold kernelRun0_A.sl.r_6 | unfold kernelRun0_A.sl.r_5 | unfold kernelRun0_A.sl.r_4 | unfold kernelRun0_A.sl.r_3 | unfold kernelRun0_A.sl.r_2 | unfold kernelRun0_A.sl.r_1)
  rw [View.readCov_eq_canon']
  simp only [View.readAt_eq_ld, Memref.IsWhole.read_unread]
  rfl

end

end Cert.FfnIdeal.Step

end
-- ==== Proof.FfnIdealFinal.lean ====
/- The feed-forward call's result array. -/
module

public import proofs.«01_k».proof.Proof.FfnIdealValue

@[expose] public section

set_option maxRecDepth 16384

noncomputable section

namespace Cert.FfnIdeal.Step

open Idealize.ShloMosaic Idealize.ShloMosaic.TcCoe Cert.FfnIdeal Cert.FfnIdeal.Gen
open Idealize.SL Idealize.SL.Sem
open Idealize.ShloMosaic.Pipeline (Dat Cfg Window)

theorem ld_cols {n : ℕ} {φ : EltTy} {x : Vec Ideal ⟨2, ![n, 2816]⟩ φ} {n' a o : ℕ} {inb} (e : Fin n') (d : Fin 256) (ha : a + n' ≤ n) (ho : o + 256 ≤ 2816) :
    View.ld x (Rect.unit (s := ⟨2, ![n, 2816]⟩) ![a, o] ![n', 256] inb) (ix2 e d) = x (ix2 ⟨a + e.val, by omega⟩ ⟨o + d.val, by omega⟩) := by
  refine congrArg x ?_
  funext k
  fin_cases k
  · exact Fin.ext (by show a + 1 * e.val = a + e.val; omega)
  · exact Fin.ext (by show o + 1 * d.val = o + d.val; omega)

section

variable (a : BitVec 32) (x0 : Vec Ideal S1x8x1024 .f32) (x1 : Vec Ideal S1x1024x1024 .f32) (x2 : Vec Ideal S1x8x1024 .f32)
  (x3 : Vec Ideal S1x1x1024 .f32) (x4 : Vec Ideal S1x1x1024 .f32) (x5 : Vec Ideal S1x1x1024 .f32) (x6 : Vec Ideal S1x1024 .f32) (x7 : Vec Ideal S1x1024 .f32)
  (x8 : Vec Ideal S1024x2816 .bf16) (x9 : Vec Ideal S1024x2816 .bf16) (x10 : Vec Ideal S3x2816 .f32) (x11 : Vec Ideal S3x2816 .f32) (x12 : Vec Ideal S1x2816 .f32)
  (x13 : Vec Ideal S1x2816 .f32) (x14 : Vec Ideal S2816x1024 .bf16)

/-- A convolved column of the block. -/
def colB (w : Vec Ideal S1024x2816 .bf16) (k : Vec Ideal S3x2816 .f32) (b : Vec Ideal S1x2816 .f32) (r : Fin 1024) (j : Fin 2816) : EReal :=
  FfnRow.conv (fun e => he a x0 x1 x2 x3 x4 x6 (ix2 ⟨r.val + 7, by omega⟩ e)) (fun e => he a x0 x1 x2 x3 x4 x6 (ix2 ⟨r.val + 8, by omega⟩ e))
    (fun e => he a x0 x1 x2 x3 x4 x6 (ix2 ⟨r.val + 9, by omega⟩ e)) (fun e => w (ix2 e j)) (k (ix2 0 j)) (k (ix2 1 j)) (k (ix2 2 j)) (b (ix2 0 j))

/-- The gated columns of the block. -/
def actB : Vec Ideal S1024x2816 .bf16 := fun y =>
  FfnRow.act (colB a x0 x1 x2 x3 x4 x6 x8 x10 x12 (y 0) (y 1)) (colB a x0 x1 x2 x3 x4 x6 x9 x11 x13 (y 0) (y 1))

theorem piece_apply (o : ℕ) (ho : o + 256 ≤ 2816) (i1 : ∀ k, (![0, o] : Fin 2 → ℕ) k + S1024x256.size k ≤ S1024x2816.size k)
    (i2 : ∀ k, (![0, o] : Fin 2 → ℕ) k + S1x256.size k ≤ S3x2816.size k) (i3 : ∀ k, (![1, o] : Fin 2 → ℕ) k + S1x256.size k ≤ S3x2816.size k)
    (i4 : ∀ k, (![2, o] : Fin 2 → ℕ) k + S1x256.size k ≤ S3x2816.size k) (i5 : ∀ k, (![0, o] : Fin 2 → ℕ) k + S1x256.size k ≤ S1x2816.size k)
    (i6 : ∀ k, (![0, o] : Fin 2 → ℕ) k + S1024x256.size k ≤ S1024x2816.size k) (x : S1024x256.Idx) :
    chunkOf (he a x0 x1 x2 x3 x4 x6)
      (View.ld x8 (Rect.unit ![0, o] S1024x256.size i1)) (View.ld x10 (Rect.unit ![0, o] S1x256.size i2)) (View.ld x10 (Rect.unit ![1, o] S1x256.size i3))
      (View.ld x10 (Rect.unit ![2, o] S1x256.size i4)) (View.ld x12 (Rect.unit ![0, o] S1x256.size i5))
      (View.ld x9 (Rect.unit ![0, o] S1024x256.size i1)) (View.ld x11 (Rect.unit ![0, o] S1x256.size i2)) (View.ld x11 (Rect.unit ![1, o] S1x256.size i3))
      (View.ld x11 (Rect.unit ![2, o] S1x256.size i4)) (View.ld x13 (Rect.unit ![0, o] S1x256.size i5)) x
    = actB a x0 x1 x2 x3 x4 x6 x8 x9 x10 x11 x12 x13 ((Rect.unit (s := S1024x2816) ![0, o] S1024x256.size i6).emb x) := by
  idx_vars x
  rename Fin 1024 => r
  rename Fin 256 => d
  rw [chunkOf_apply, convOf_apply, convOf_apply]
  have h0 : (Rect.unit (s := S1024x2816) ![0, o] S1024x256.size i6).emb (ix2 r d) 0 = r := Fin.ext (by show 0 + 1 * r.val = r.val; omega)
  have h1 : (Rect.unit (s := S1024x2816) ![0, o] S1024x256.size i6).emb (ix2 r d) 1 = (⟨o + d.val, by omega⟩ : Fin 2816) := Fin.ext (by show o + 1 * d.val = o + d.val; omega)
  unfold actB colB
  rw [h0, h1]
  have w (z : Vec Ideal S1024x2816 .bf16) (e : Fin 1024) : View.ld z (Rect.unit ![0, o] S1024x256.size i1) (ix2 e d) = z (ix2 e ⟨o + d.val, by omega⟩) :=
    (ld_cols (n := 1024) (n' := 1024) e d (by omega) ho).trans (congrArg (fun q => z (ix2 q _)) (Fin.ext (Nat.zero_add _)))
  have k0 (z : Vec Ideal S3x2816 .f32) : View.ld z (Rect.unit ![0, o] S1x256.size i2) (ix2 0 d) = z (ix2 0 ⟨o + d.val, by omega⟩) := ld_cols (n := 3) (n' := 1) 0 d (by omega) ho
  have k1 (z : Vec Ideal S3x2816 .f32) : View.ld z (Rect.unit ![1, o] S1x256.size i3) (ix2 0 d) = z (ix2 1 ⟨o + d.val, by omega⟩) := ld_cols (n := 3) (n' := 1) 0 d (by omega) ho
  have k2 (z : Vec Ideal S3x2816 .f32) : View.ld z (Rect.unit ![2, o] S1x256.size i4) (ix2 0 d) = z (ix2 2 ⟨o + d.val, by omega⟩) := ld_cols (n := 3) (n' := 1) 0 d (by omega) ho
  have b (z : Vec Ideal S1x2816 .f32) : View.ld z (Rect.unit ![0, o] S1x256.size i5) (ix2 0 d) = z (ix2 0 ⟨o + d.val, by omega⟩) := ld_cols (n := 1) (n' := 1) 0 d (by omega) ho
  exact congrArg₂ FfnRow.act (FfnRow.conv_congr (fun _ => rfl) (fun _ => rfl) (fun _ => rfl) (w x8) (k0 x10) (k1 x10) (k2 x10) (b x12))
    (FfnRow.conv_congr (fun _ => rfl) (fun _ => rfl) (fun _ => rfl) (w x9) (k0 x11) (k1 x11) (k2 x11) (b x13))

theorem chunks_val (y : S1024x2816.Idx) : View.canon (chunks a x0 x1 x2 x3 x4 x6 x8 x9 x10 x11 x12 x13) y = actB a x0 x1 x2 x3 x4 x6 x8 x9 x10 x11 x12 x13 y := by
  refine View.canon_apply_of_pieces (Val := Elt Ideal) (e := .bf16) (actB a x0 x1 x2 x3 x4 x6 x8 x9 x10 x11 x12 x13) _ ?_ y ?_
  · unfold chunks
    simp only [List.forall_mem_cons, List.not_mem_nil, false_imp_iff, implies_true, and_true]
    refine ⟨fun x => ?_, fun x => ?_, fun x => ?_, fun x => ?_, fun x => ?_, fun x => ?_, fun x => ?_, fun x => ?_, fun x => ?_, fun x => ?_, fun x => ?_⟩
    · exact piece_apply a x0 x1 x2 x3 x4 x6 x8 x9 x10 x11 x12 x13 2560 (by decide) _ _ _ _ _ _ x
    · exact piece_apply a x0 x1 x2 x3 x4 x6 x8 x9 x10 x11 x12 x13 2304 (by decide) _ _ _ _ _ _ x
    · exact piece_apply a x0 x1 x2 x3 x4 x6 x8 x9 x10 x11 x12 x13 2048 (by decide) _ _ _ _ _ _ x
    · exact piece_apply a x0 x1 x2 x3 x4 x6 x8 x9 x10 x11 x12 x13 1792 (by decide) _ _ _ _ _ _ x
    · exact piece_apply a x0 x1 x2 x3 x4 x6 x8 x9 x10 x11 x12 x13 1536 (by decide) _ _ _ _ _ _ x
    · exact piece_apply a x0 x1 x2 x3 x4 x6 x8 x9 x10 x11 x12 x13 1280 (by decide) _ _ _ _ _ _ x
    · exact piece_apply a x0 x1 x2 x3 x4 x6 x8 x9 x10 x11 x12 x13 1024 (by decide) _ _ _ _ _ _ x
    · exact piece_apply a x0 x1 x2 x3 x4 x6 x8 x9 x10 x11 x12 x13 768 (by decide) _ _ _ _ _ _ x
    · exact piece_apply a x0 x1 x2 x3 x4 x6 x8 x9 x10 x11 x12 x13 512 (by decide) _ _ _ _ _ _ x
    · exact piece_apply a x0 x1 x2 x3 x4 x6 x8 x9 x10 x11 x12 x13 256 (by decide) _ _ _ _ _ _ x
    · exact piece_apply a x0 x1 x2 x3 x4 x6 x8 x9 x10 x11 x12 x13 0 (by decide) _ _ _ _ _ _ x
  · exact View.cover_of_tiledL (s := S1024x2816) (chunks a x0 x1 x2 x3 x4 x6 x8 x9 x10 x11 x12 x13) ![1024, 256] (by sl_kernel_rfl) y

/-- The step's block. -/
theorem outF_apply (r : Fin 1024) (c : Fin 1024) : outF a x0 x1 x2 x3 x4 x5 x6 x7 x8 x9 x10 x11 x12 x13 x14 (ix3 0 r c)
    = FfnRow.out (fun e => x1 (ix3 0 r e)) (fun e => x5 (ix3 0 0 e)) (fun e => x7 (ix2 0 e)) (fun j e => x14 (ix2 j e))
        (fun j => FfnRow.act (colB a x0 x1 x2 x3 x4 x6 x8 x10 x12 r j) (colB a x0 x1 x2 x3 x4 x6 x9 x11 x13 r j)) c := by
  unfold outF
  rw [View.ld_unit_zero (by decide), View.ld_unit_zero (by decide), View.ld_unit_zero (by decide), View.ld_unit_zero (by decide), View.ld_unit_zero (by decide), result_apply]
  exact FfnRow.out_congr (fun _ => rfl) (fun _ => rfl) (fun _ => rfl) (fun _ _ => rfl) (fun j => chunks_val a x0 x1 x2 x3 x4 x6 x8 x9 x10 x11 x12 x13 (ix2 r j)) rfl

theorem he_eq : he a x0 x1 x2 x3 x4 x6 = heOf a x1 x0 x2 x6 x4 x3 := by
  unfold he
  rw [View.ld_unit_zero (by decide), View.ld_unit_zero (by decide), View.ld_unit_zero (by decide), View.ld_unit_zero (by decide), View.ld_unit_zero (by decide),
    View.ld_unit_zero (by decide)]

end

theorem index0 : ∀ t : Fin grid0.N, win0_0.index t = ![(grid0.coords t 0).val, (grid0.coords t 1).val * 128 - 1, 0] := by decide +kernel
theorem index1 : ∀ t : Fin grid0.N, win0_1.index t = ![(grid0.coords t 0).val, (grid0.coords t 1).val, 0] := by decide +kernel
theorem index2 : ∀ t : Fin grid0.N, win0_2.index t = ![(grid0.coords t 0).val, min (((grid0.coords t 1).val + 1) * 128) 255, 0] := by decide +kernel
theorem index3 : ∀ t : Fin grid0.N, win0_3.index t = ![(grid0.coords t 0).val, 0, 0] := by decide +kernel
theorem index4 : ∀ t : Fin grid0.N, win0_4.index t = ![(grid0.coords t 0).val, 0, 0] := by decide +kernel
theorem index5 : ∀ t : Fin grid0.N, win0_5.index t = ![(grid0.coords t 0).val, 0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![0, 0] := by decide +kernel
theorem index15 : ∀ t : Fin grid0.N, win0_15.index t = ![(grid0.coords t 0).val, (grid0.coords t 1).val, 0] := by decide +kernel

variable (m : (ℓ : Loc nD τ sig) → Buf (Elt Ideal) ℓ)

/-! The gains reach the region reshaped; the weights cut in two and cast, the second taps and bias halved. -/

theorem V_gpre (c : Dev nD) (e : Fin 1024) : V m c (Pipeline.arrRef spec0 6) (ix2 0 e) = m ((c.tc : Thread nD τ).loc main_arg4) (ix1 e) := by
  have h : V m c (Pipeline.arrRef spec0 6) = shapeCast S1x1024 (m ((c.tc : Thread nD τ).loc main_arg4)) shapeCasts_S1024_S1x1024 := by
    unfold V hostOps0; after_results <;> rfl
  rw [h]
  pointwise
theorem V_gpost (c : Dev nD) (e : Fin 1024) : V m c (Pipeline.arrRef spec0 7) (ix2 0 e) = m ((c.tc : Thread nD τ).loc main_arg5) (ix1 e) := by
  have h : V m c (Pipeline.arrRef spec0 7) = shapeCast S1x1024 (m ((c.tc : Thread nD τ).loc main_arg5)) shapeCasts_S1024_S1x1024 := by
    unfold V hostOps0; after_results <;> rfl
  rw [h]
  pointwise
theorem V_upa (c : Dev nD) (e : Fin 1024) (j : Fin 2816) : V m c (Pipeline.arrRef spec0 8) (ix2 e j) = m ((c.tc : Thread nD τ).loc main_arg6) (ix2 e ⟨j.val, by omega⟩) := by
  have h : V m c (Pipeline.arrRef spec0 8) = (truncf (F := Ideal) (φ := .f32) .bf16 (extractStridedSlice S1024x2816 ![0, 0] (m ((c.tc : Thread nD τ).loc main_arg6) : FVec Ideal S1024x5632 .f32) slices_S1024x5632_S1024x2816_0_0) bitsLt_bf16_f32 : FVec Ideal S1024x2816 .bf16) := by
    unfold V hostOps0; after_results <;> rfl
  rw [h]
  pointwise
theorem V_upb (c : Dev nD) (e : Fin 1024) (j : Fin 2816) : V m c (Pipeline.arrRef spec0 9) (ix2 e j) = m ((c.tc : Thread nD τ).loc main_arg6) (ix2 e ⟨2816 + j.val, by omega⟩) := by
  have h : V m c (Pipeline.arrRef spec0 9) = (truncf (F := Ideal) (φ := .f32) .bf16 (extractStridedSlice S1024x2816 ![0, 2816] (m ((c.tc : Thread nD τ).loc main_arg6) : FVec Ideal S1024x5632 .f32) slices_S1024x5632_S1024x2816_0_2816) bitsLt_bf16_f32 : FVec Ideal S1024x2816 .bf16) := by
    unfold V hostOps0; after_results <;> rfl
  rw [h]
  pointwise
theorem V_ca (c : Dev nD) (e : Fin 3) (j : Fin 2816) : V m c (Pipeline.arrRef spec0 10) (ix2 e j) = m ((c.tc : Thread nD τ).loc main_arg7) (ix2 e ⟨j.val, by omega⟩) := by
  have h : V m c (Pipeline.arrRef spec0 10) = extractStridedSlice S3x2816 ![0, 0] (m ((c.tc : Thread nD τ).loc main_arg7)) slices_S3x5632_S3x2816_0_0 := by
    unfold V hostOps0; after_results <;> rfl
  rw [h]
  pointwise
theorem V_cb (c : Dev nD) (e : Fin 3) (j : Fin 2816) : V m c (Pipeline.arrRef spec0 11) (ix2 e j) = Ideal.ofBits .f32 0x3F000000#32 * m ((c.tc : Thread nD τ).loc main_arg7) (ix2 e ⟨2816 + j.val, by omega⟩) := by
  have h : V m c (Pipeline.arrRef spec0 11) = mulf (broadcastInDim S3x2816 ![] bcast_S_S3x2816 (constant (F := Ideal) S_ .f32 0x3F000000#32)) (extractStridedSlice S3x2816 ![0, 2816] (m ((c.tc : Thread nD τ).loc main_arg7)) slices_S3x5632_S3x2816_0_2816) := by
    unfold V hostOps0; after_results <;> rfl
  rw [h]
  pointwise
theorem V_ba (c : Dev nD) (j : Fin 2816) : V m c (Pipeline.arrRef spec0 12) (ix2 0 j) = m ((c.tc : Thread nD τ).loc main_arg8) (ix1 ⟨j.val, by omega⟩) := by
  have h : V m c (Pipeline.arrRef spec0 12) = shapeCast S1x2816 (extractStridedSlice S2816 ![0] (m ((c.tc : Thread nD τ).loc main_arg8)) slices_S5632_S2816_0) shapeCasts_S2816_S1x2816 := by
    unfold V hostOps0; after_results <;> rfl
  rw [h]
  pointwise
theorem V_bb (c : Dev nD) (j : Fin 2816) : V m c (Pipeline.arrRef spec0 13) (ix2 0 j) = Ideal.ofBits .f32 0x3F000000#32 * m ((c.tc : Thread nD τ).loc main_arg8) (ix1 ⟨2816 + j.val, by omega⟩) := by
  have h : V m c (Pipeline.arrRef spec0 13) = mulf (broadcastInDim S1x2816 ![] bcast_S_S1x2816 (constant (F := Ideal) S_ .f32 0x3F000000#32)) (shapeCast S1x2816 (extractStridedSlice S2816 ![2816] (m ((c.tc : Thread nD τ).loc main_arg8)) slices_S5632_S2816_2816) shapeCasts_S2816_S1x2816) := by
    unfold V hostOps0; after_results <;> rfl
  rw [h]
  pointwise
theorem V_dn (c : Dev nD) : V m c (Pipeline.arrRef spec0 14) = m ((c.tc : Thread nD τ).loc main_arg9) := by
  unfold V hostOps0; after_results <;> rfl

set_option maxHeartbeats 4000000 in
/-- The extended rows of a point's block are the sequence's normed rows, zero outside it. -/
theorem he_block (c : Dev nD) (t : Fin cfg0.N) (ρ : Fin 1040) (h7 : 7 ≤ ρ.val) (h33 : ρ.val < 1033) (e : Fin 1024) (b : Fin 32) (hb : (grid0.coords t 0).val = b.val) (n : ℕ)
    (hn : n = 1024 * (grid0.coords t 1).val + ρ.val - 7) :
    he (BitVec.ofNat 32 (grid0.coords t 1).val) (iblk m c 0 t) (iblk m c 1 t) (iblk m c 2 t) (iblk m c 3 t) (iblk m c 4 t) (iblk m c 6 t) (ix2 ρ e)
      = FfnRow.hrow (m ((c.tc : Thread nD τ).loc main_arg0)) (m ((c.tc : Thread nD τ).loc main_arg1)) (m ((c.tc : Thread nD τ).loc main_arg2)) (m ((c.tc : Thread nD τ).loc main_arg4)) b n e := by
  have e0 := index0 t; have e1 := index1 t; have e2 := index2 t; have e3 := index3 t; have e4 := index4 t; have e6 := index6 t
  have hi : (grid0.coords t 1).val < 2 := (grid0.coords t 1).isLt
  rw [he_eq]
  refine (heOf_apply (grid0.coords t 1) _ _ _ _ _ _ ρ e).trans ?_
  unfold FfnRow.hrow
  by_cases hc : 1 ≤ n ∧ n < 2049
  · rw [dif_pos hc, if_pos (by omega)]
    refine FfnRow.normed_congr (fun e => ?_) (fun e => ?_) (fun e => ?_) (fun e => ?_)
    · unfold xe
      split
      · exact (congrFun (V_main_arg0 m c) _).trans (congrArg _ (by blk_ext [e0]))
      · split
        · exact (congrFun (V_main_arg0 m c) _).trans (congrArg _ (by blk_ext [e1]))
        · exact (congrFun (V_main_arg0 m c) _).trans (congrArg _ (by blk_ext [e2]))
    · exact (congrArg (V m c (Pipeline.arrRef spec0 6)) (by blk_ext [e6])).trans (V_gpre m c e)
    · exact (congrFun (V_main_arg2 m c) _).trans (congrArg _ (by blk_ext [e4]))
    · exact (congrFun (V_main_arg1 m c) _).trans (congrArg _ (by blk_ext [e3]))
  · rw [dif_neg hc, if_neg (by omega)]

set_option maxHeartbeats 4000000 in
/-- A column of the first half. -/
theorem col_a (c : Dev nD) (t : Fin cfg0.N) (r : Fin 1024) (j : Fin 2816) (b : Fin 32) (hb : (grid0.coords t 0).val = b.val) (s : Fin 2048)
    (hs : s.val = 1024 * (grid0.coords t 1).val + r.val) :
    colB (BitVec.ofNat 32 (grid0.coords t 1).val) (iblk m c 0 t) (iblk m c 1 t) (iblk m c 2 t) (iblk m c 3 t) (iblk m c 4 t) (iblk m c 6 t) (iblk m c 8 t) (iblk m c 10 t) (iblk m c 12 t) r j
      = FfnRow.col (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8)) b s ⟨j.val, by omega⟩ := by
  have e8 := index8 t; have e10 := index10 t; have e12 := index12 t
  unfold colB FfnRow.col
  exact FfnRow.conv_congr (fun e => he_block m c t ⟨r.val + 7, by omega⟩ (by show 7 ≤ r.val + 7; omega) (by show r.val + 7 < 1033; omega) e b hb s.val (by show s.val = _ + (r.val + 7) - 7; omega))
    (fun e => he_block m c t ⟨r.val + 8, by omega⟩ (by show 7 ≤ r.val + 8; omega) (by show r.val + 8 < 1033; omega) e b hb (s.val + 1) (by show s.val + 1 = _ + (r.val + 8) - 7; omega))
    (fun e => he_block m c t ⟨r.val + 9, by omega⟩ (by show 7 ≤ r.val + 9; omega) (by show r.val + 9 < 1033; omega) e b hb (s.val + 2) (by show s.val + 2 = _ + (r.val + 9) - 7; omega))
    (fun e => (congrArg (V m c (Pipeline.arrRef spec0 8)) (by blk_ext [e8])).trans (V_upa m c e j))
    ((congrArg (V m c (Pipeline.arrRef spec0 10)) (by blk_ext [e10])).trans (V_ca m c 0 j))
    ((congrArg (V m c (Pipeline.arrRef spec0 10)) (by blk_ext [e10])).trans (V_ca m c 1 j))
    ((congrArg (V m c (Pipeline.arrRef spec0 10)) (by blk_ext [e10])).trans (V_ca m c 2 j))
    ((congrArg (V m c (Pipeline.arrRef spec0 12)) (by blk_ext [e12])).trans (V_ba m c j))

set_option maxHeartbeats 4000000 in
/-- A column of the second half, halved. -/
theorem col_b (c : Dev nD) (t : Fin cfg0.N) (r : Fin 1024) (j : Fin 2816) (b : Fin 32) (hb : (grid0.coords t 0).val = b.val) (s : Fin 2048)
    (hs : s.val = 1024 * (grid0.coords t 1).val + r.val) :
    colB (BitVec.ofNat 32 (grid0.coords t 1).val) (iblk m c 0 t) (iblk m c 1 t) (iblk m c 2 t) (iblk m c 3 t) (iblk m c 4 t) (iblk m c 6 t) (iblk m c 9 t) (iblk m c 11 t) (iblk m c 13 t) r j
      = Ideal.ofBits .f32 0x3F000000#32 * FfnRow.col (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8)) b s ⟨2816 + j.val, by omega⟩ := by
  have e9 := index9 t; have e11 := index11 t; have e13 := index13 t
  unfold colB FfnRow.col
  refine Eq.trans ?_ (FfnRow.conv_half _ _ _ _ _ _ _ _)
  exact FfnRow.conv_congr (fun e => he_block m c t ⟨r.val + 7, by omega⟩ (by show 7 ≤ r.val + 7; omega) (by show r.val + 7 < 1033; omega) e b hb s.val (by show s.val = _ + (r.val + 7) - 7; omega))
    (fun e => he_block m c t ⟨r.val + 8, by omega⟩ (by show 7 ≤ r.val + 8; omega) (by show r.val + 8 < 1033; omega) e b hb (s.val + 1) (by show s.val + 1 = _ + (r.val + 8) - 7; omega))
    (fun e => he_block m c t ⟨r.val + 9, by omega⟩ (by show 7 ≤ r.val + 9; omega) (by show r.val + 9 < 1033; omega) e b hb (s.val + 2) (by show s.val + 2 = _ + (r.val + 9) - 7; omega))
    (fun e => (congrArg (V m c (Pipeline.arrRef spec0 9)) (by blk_ext [e9])).trans (V_upb m c e j))
    ((congrArg (V m c (Pipeline.arrRef spec0 11)) (by blk_ext [e11])).trans (V_cb m c 0 j))
    ((congrArg (V m c (Pipeline.arrRef spec0 11)) (by blk_ext [e11])).trans (V_cb m c 1 j))
    ((congrArg (V m c (Pipeline.arrRef spec0 11)) (by blk_ext [e11])).trans (V_cb m c 2 j))
    ((congrArg (V m c (Pipeline.arrRef spec0 13)) (by blk_ext [e13])).trans (V_bb m c j))

set_option maxHeartbeats 4000000 in
/-- The result array after the run. -/
theorem final (c : Dev nD) : (dats m 0 c).arrAt 15 cfg0.N = FfnRow.array (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 15 _ (by decide +kernel) fun t hf y => ?_
  have e1 := index1 t; have e5 := index5 t; have e7 := index7 t; have e14 := index14 t; have e15 := index15 t
  have h0 : (grid0.coords t 0).val < 32 := (grid0.coords t 0).isLt
  have h1 : (grid0.coords t 1).val < 2 := (grid0.coords t 1).isLt
  blk_simp
  rw [after0_15, outsAt_eq]
  idx_vars y
  rename Fin 1 => z
  rename' y1 => r, y2 => d
  obtain rfl : z = 0 := Subsingleton.elim _ _
  have hE : ((View.whole main_v17).slice (win0_15.rect t)).emb (ix3 0 r d)
      = ix3 (⟨(grid0.coords t 0).val, h0⟩ : Fin 32) (⟨1024 * (grid0.coords t 1).val + r.val, by omega⟩ : Fin 2048) d := by blk_ext [e15]
  rw [hE, outF_apply]
  unfold FfnRow.array
  refine FfnRow.out_congr (fun e => ?_) (fun e => ?_) (fun e => ?_) (fun j e => ?_) (fun j => ?_) rfl
  · exact (congrFun (V_main_arg0 m c) _).trans (congrArg _ (by blk_ext [e1]))
  · exact (congrFun (V_main_arg3 m c) _).trans (congrArg _ (by blk_ext [e5]))
  · exact (congrArg (V m c (Pipeline.arrRef spec0 7)) (by blk_ext [e7])).trans (V_gpost m c e)
  · exact (congrFun (V_dn m c) _).trans (congrArg _ (by blk_ext [e14]))
  · exact (congrArg₂ FfnRow.act (col_a m c t r j _ rfl _ rfl) (col_b m c t r j _ rfl _ rfl)).trans (FfnRow.act_half _ _)

/-! ## The run, its result array named -/

variable (ρ : Dev nD → PrngReg)

theorem run_blocks : θ_run defs (onTc (τ := τ) (main (F := Ideal))) ⟨m, fun _ => 0, ρ⟩ fun r => ∀ c : Dev nD,
      r.2.mem ((c : Thread nD τ).loc main_v17) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 15,
      ((h c).1 1).trans (((dats m 0 c).arrAt_in 1 rfl _).trans ((A_eq m c 1).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.FfnIdeal.Step

end
-- ==== Proof.FfnRefValue.lean ====
/- The reference feed-forward part read at an index. -/
module

public import proofs.«01_k».proof.Proof.FfnRow
public import proofs.«01_k».proof.Proof.Gen.FfnRefIdeal
public import proofs.«01_k».proof.Proof.Gen.FfnRefIdeal.Run
public import Idealize.ShloMosaic.Lib.KernelVsHost

@[expose] public section

set_option maxRecDepth 16384

noncomputable section

namespace Cert.FfnRefIdeal.Value

open Cert.FfnRefIdeal Cert.FfnRefIdeal.Gen Idealize.ShloMosaic Idealize.ShloMosaic.TcCoe Idealize.ShloMosaic.StableHlo

variable (V0 : Valuation τ sig (Elt Ideal))

/-- The padded products: zero before and after the sequence. -/
theorem v20_apply (b : Fin 32) (n : Fin 2050) (j : Fin 5632) : res_main_v20 V0 (ix3 b n j)
    = ∑ e, FfnRow.hrow (V0 (Proc.devRef .tc main_arg0)) (V0 (Proc.devRef .tc main_arg1)) (V0 (Proc.devRef .tc main_arg2)) (V0 (Proc.devRef .tc main_arg4)) b n.val e
        * V0 (Proc.devRef .tc main_arg6) (ix2 e j) := by
  unfold res_main_v20
  by_cases hn : 1 ≤ n.val ∧ n.val < 2049
  · refine (pad_apply_of_inside _ _ _ _ _ _ _ _ (ix3 b ⟨n.val - 1, by omega⟩ j) (fun a => ?_)).trans ?_
    · fin_cases a
      · show b.val = 0 + b.val * 1; omega
      · show n.val = 1 + (n.val - 1) * 1; omega
      · show j.val = 0 + j.val * 1; omega
    · simp only [FfnRow.hrow, dif_pos hn, FfnRow.normed]
      pointwise
  · refine (pad_apply_of_not_inside _ _ _ _ _ _ _ _ 1 (fun h => hn ?_)).trans ?_
    · have h1 : 1 ≤ n.val := h.1
      have h2 : (n.val - 1) / 1 < 2048 := h.2.2
      omega
    · simp only [FfnRow.hrow, dif_neg hn, zero_mul, Finset.sum_const_zero]
      pointwise
      show ((((0#32 : BitVec 32).toInt : ℤ) : ℝ) : EReal) = 0
      simp

/-- The convolved columns. -/
theorem v43_apply (b : Fin 32) (r : Fin 2048) (j : Fin 5632) : res_main_v43 V0 (ix3 b r j)
    = FfnRow.col (V0 (Proc.devRef .tc main_arg0)) (V0 (Proc.devRef .tc main_arg1)) (V0 (Proc.devRef .tc main_arg2)) (V0 (Proc.devRef .tc main_arg4))
        (V0 (Proc.devRef .tc main_arg6)) (V0 (Proc.devRef .tc main_arg7)) (V0 (Proc.devRef .tc main_arg8)) b r j := by
  pointwise [res_main_v43]
  simp only [v20_apply]
  unfold FfnRow.col FfnRow.conv
  simp only [Nat.zero_add, Nat.add_comm 1 r.val, Nat.add_comm 2 r.val]

/-- The down projection of the gated columns. -/
theorem v60_apply (b : Fin 32) (r : Fin 2048) (c : Fin 1024) : res_main_v60 V0 (ix3 b r c)
    = ∑ j : Fin 2816, FfnRow.gelu (res_main_v43 V0 (ix3 b r ⟨j.val, by omega⟩)) (res_main_v43 V0 (ix3 b r ⟨2816 + j.val, by omega⟩)) * V0 (Proc.devRef .tc main_arg9) (ix2 j c) := by
  unfold FfnRow.gelu
  pointwise [res_main_v60, res_main_v44]

/-- The result of the arguments. -/
def res : (⟨S32x2048x1024, .f32⟩ : BufTy).Contents (Elt Ideal) :=
  addf (V0 (Proc.devRef .tc main_arg0)) (mulf (broadcastInDim S32x2048x1024 ![0, 1, 2] bcast_S32x1x1024_S32x2048x1024_0_1_2 (V0 (Proc.devRef .tc main_arg3))) (mulf (mulf (res_main_v60 V0) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (res_main_v60 V0) (res_main_v60 V0)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (V0 (Proc.devRef .tc main_arg5))))))

theorem res_apply (b : Fin 32) (r : Fin 2048) (j : Fin 1024) : res V0 (ix3 b r j)
    = FfnRow.array (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7))
        (V0 (Proc.devRef .tc main_arg8)) (V0 (Proc.devRef .tc main_arg9)) (ix3 b r j) := by
  simp only [FfnRow.array, FfnRow.out]
  pointwise [res]
  simp only [v60_apply, v43_apply]

variable (m : (ℓ : Loc nD τ sig) → Buf (Elt Ideal) ℓ) (c : Dev nD)

/-- The row function at every row of the arguments. -/
abbrev val : Buf (Elt Ideal) ((c.tc : Thread nD τ).loc main_v76) :=
  FfnRow.array (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))

theorem res_eq : res (launchContents m c) = val m c := by
  funext y
  idx_vars y
  exact res_apply (launchContents m c) _ _ _

end Cert.FfnRefIdeal.Value

end
-- ==== Proof.FfnClaims.lean ====
/- The feed-forward call's claims. -/
module

public import proofs.«01_k».proof.Defs
public import proofs.«01_k».proof.Proof.Gen.Ffn.Frame
public import proofs.«01_k».proof.Proof.FfnIdealFinal
public import proofs.«01_k».proof.Proof.FfnRefValue
public import Idealize.ShloMosaic.Lib.Quiescent

@[expose] public section

set_option maxRecDepth 16384

noncomputable section

namespace Cert.Proof

open Idealize.ShloMosaic Idealize.SL.Sem

/-- The named constant. -/
theorem preserves_Ffn : Cert.preserves_Ffn_FfnIdeal := ⟨rfl, fun s => IdealRules.named_const.ideal_named _ _ _ _ rfl, rfl⟩

theorem frame_Ffn : Cert.quiescent_Ffn := fun m ρ _ => Cert.Ffn.Gen.frame m ρ

theorem frame_FfnIdeal : Cert.quiescent_FfnIdeal := fun m ρ _ => Cert.FfnIdeal.Gen.frame m ρ

theorem frame_FfnRef : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

theorem value_Ffn : Cert.algebraic_FfnIdeal_FfnRefIdeal := by
  intro m ρ m' ρ' _ hagree
  refine ⟨fun c => (Cert.FfnIdeal.Gen.dats m 0 c).arrAt 15 Cert.FfnIdeal.cfg0.N, Cert.FfnIdeal.Step.run_blocks m ρ, ?_⟩
  refine (θ_run Cert.FfnRefIdeal.defs _ _).mono (fun r h c => ⟨(h c).1.trans ?_, (h c).2⟩) (Cert.FfnRefIdeal.Value.run (F := Ideal) m' ρ')
  obtain ⟨e0, e1, e2, e3, e4, e5, e6, e7, e8, e9⟩ := hagree c
  refine (Cert.FfnRefIdeal.Value.res_eq m' c).trans (Eq.trans ?_ (Cert.FfnIdeal.Step.final m c).symm)
  unfold Cert.FfnRefIdeal.Value.val
  rw [e0, e1, e2, e3, e4, e5, e6, e7, e8, e9]

end Cert.Proof

end
-- ==== Proof.MergeRow.lean ====
/- One row of the merge, from that row of its operands: the two branches' products gated and added, the output
   projection, the norm, the residual. -/
module

public import Idealize.ShloMosaic.Lib.Pointwise

@[expose] public section

noncomputable section

namespace Cert.MergeRow

open Idealize.ShloMosaic

section

variable (a : Fin 1024 → EReal) (f : Fin 512 → EReal) (ga gb : Fin 1024 → EReal) (wa : Fin 1024 → Fin 1024 → EReal) (wf : Fin 512 → Fin 1024 → EReal)
  (wo : Fin 1024 → Fin 1024 → EReal) (x gt gp : Fin 1024 → EReal)

/-- The gated sum of the branches. -/
def merged (j : Fin 1024) : EReal :=
  Ideal.logistic (ga j) * (∑ e, a e * wa e j) + Ideal.logistic (gb j) * (∑ e, f e * wf e j)

/-- The output projection. -/
def proj (c : Fin 1024) : EReal := ∑ j, merged a f ga gb wa wf j * wo j c

/-- The row's result: the residual and the normed projection. -/
def row (c : Fin 1024) : EReal :=
  x c + gt c * (proj a f ga gb wa wf wo c * Ideal.rsqrt (Ideal.div (∑ j, proj a f ga gb wa wf wo j * proj a f ga gb wa wf wo j) (Ideal.ofBits .f32 0x44800000#32)
    + Ideal.ofBits .f32 0x358637BD#32) * gp c)

end

/-- Rows alike give results alike. -/
theorem row_congr {a a' : Fin 1024 → EReal} {f f' : Fin 512 → EReal} {ga ga' gb gb' : Fin 1024 → EReal} {wa wa' : Fin 1024 → Fin 1024 → EReal}
    {wf wf' : Fin 512 → Fin 1024 → EReal} {wo wo' : Fin 1024 → Fin 1024 → EReal} {x x' gt gt' gp gp' : Fin 1024 → EReal} {c c' : Fin 1024}
    (h1 : ∀ e, a e = a' e) (h2 : ∀ e, f e = f' e) (h3 : ∀ e, ga e = ga' e) (h4 : ∀ e, gb e = gb' e) (h5 : ∀ e j, wa e j = wa' e j)
    (h6 : ∀ e j, wf e j = wf' e j) (h7 : ∀ e j, wo e j = wo' e j) (h8 : ∀ e, x e = x' e) (h9 : ∀ e, gt e = gt' e) (h10 : ∀ e, gp e = gp' e) (h11 : c = c') :
    row a f ga gb wa wf wo x gt gp c = row a' f' ga' gb' wa' wf' wo' x' gt' gp' c' := by
  rw [funext h1, funext h2, funext h3, funext h4, funext fun e => funext (h5 e), funext fun e => funext (h6 e), funext fun e => funext (h7 e), funext h8, funext h9,
    funext h10, h11]

/-- The whole array. -/
def array (a : (⟨3, ![32, 2048, 1024]⟩ : Shape).Idx → EReal) (f : (⟨3, ![32, 2048, 512]⟩ : Shape).Idx → EReal) (g : (⟨3, ![32, 2048, 2048]⟩ : Shape).Idx → EReal)
    (x : (⟨3, ![32, 2048, 1024]⟩ : Shape).Idx → EReal) (gt : (⟨3, ![32, 1, 1024]⟩ : Shape).Idx → EReal) (gp : (⟨1, ![1024]⟩ : Shape).Idx → EReal)
    (wa : (⟨2, ![1024, 1024]⟩ : Shape).Idx → EReal) (wf : (⟨2, ![512, 1024]⟩ : Shape).Idx → EReal) (wo : (⟨2, ![1024, 1024]⟩ : Shape).Idx → EReal)
    (y : (⟨3, ![32, 2048, 1024]⟩ : Shape).Idx) : EReal :=
  row (fun e => a (ix3 (y 0) (y 1) e)) (fun e => f (ix3 (y 0) (y 1) e)) (fun e => g (ix3 (y 0) (y 1) ⟨e.val, by omega⟩))
    (fun e => g (ix3 (y 0) (y 1) ⟨1024 + e.val, by omega⟩)) (fun e j => wa (ix2 e j)) (fun e j => wf (ix2 e j)) (fun e j => wo (ix2 e j))
    (fun e => x (ix3 (y 0) (y 1) e)) (fun e => gt (ix3 (y 0) 0 e)) (fun e => gp (ix1 e)) (y 2)

end Cert.MergeRow

end
-- ==== Proof.MergeIdealTile.lean ====
/- The merge call's two stores, read at an index. -/
module

public import proofs.«01_k».proof.Proof.MergeRow
public import proofs.«01_k».proof.Proof.Gen.MergeIdeal.Value

@[expose] public section

set_option maxRecDepth 16384

noncomputable section

namespace Cert.MergeIdeal.Step

open Idealize.ShloMosaic Idealize.ShloMosaic.TcCoe Cert.MergeIdeal Cert.MergeIdeal.Gen

section

variable (a : Vec Ideal S1x512x1024 .bf16) (f : Vec Ideal S1x512x512 .bf16) (ga gb : Vec Ideal S1x512x1024 .bf16) (x : Vec Ideal S1x512x1024 .f32)
  (gt : Vec Ideal S1x1x1024 .f32) (gp : Vec Ideal S1x1024 .f32) (wa wo : Vec Ideal S1024x1024 .bf16) (wf : Vec Ideal S512x1024 .bf16)

/-- The row function at row `r` of the operands loaded. -/
def tileRow (r : Fin 512) : Fin 1024 → EReal :=
  MergeRow.row (fun e => a (ix3 0 r e)) (fun e => f (ix3 0 r e)) (fun e => ga (ix3 0 r e)) (fun e => gb (ix3 0 r e)) (fun e j => wa (ix2 e j))
    (fun e j => wf (ix2 e j)) (fun e j => wo (ix2 e j)) (fun e => x (ix3 0 r e)) (fun e => gt (ix3 0 0 e)) (fun e => gp (ix2 0 e))

theorem proj_apply (r : Fin 512) (c : Fin 1024) : k0_pay8 (k0_pay3 f wf) (k0_pay6 gb) (k0_pay7 a wa ga) wo (ix2 r c)
    = MergeRow.proj (fun e => a (ix3 0 r e)) (fun e => f (ix3 0 r e)) (fun e => ga (ix3 0 r e)) (fun e => gb (ix3 0 r e)) (fun e j => wa (ix2 e j))
    (fun e j => wf (ix2 e j)) (fun e j => wo (ix2 e j)) c := by
  pointwise [k0_pay8, k0_pay3, k0_pay6, k0_pay7, MergeRow.proj, MergeRow.merged]

theorem proj2_apply (r : Fin 512) (c : Fin 1024) : k0_pay9 (k0_pay4 a wa) (k0_pay5 f wf) ga gb wo (ix2 r c)
    = MergeRow.proj (fun e => a (ix3 0 r e)) (fun e => f (ix3 0 r e)) (fun e => ga (ix3 0 r e)) (fun e => gb (ix3 0 r e)) (fun e j => wa (ix2 e j))
    (fun e j => wf (ix2 e j)) (fun e j => wo (ix2 e j)) c := by
  pointwise [k0_pay9, k0_pay4, k0_pay5, MergeRow.proj, MergeRow.merged]

theorem norm1_apply (y : FVec Ideal S512x1024 .f32) (v9 v25 v27 v32) (hy : k0_pay8 v9 v25 v27 v32 = y) (r : Fin 512) (c : Fin 1024) :
    k0_pay1 y (k0_pay10 x) (k0_pay11 gt) (k0_pay12 gp) (k0_pay13 v9 v25 v27 v32) (ix3 0 r c)
      = x (ix3 0 r c) + gt (ix3 0 0 c) * (y (ix2 r c) * Ideal.rsqrt (Ideal.div (∑ j, y (ix2 r j) * y (ix2 r j)) (Ideal.ofBits .f32 0x44800000#32)
    + Ideal.ofBits .f32 0x358637BD#32) * gp (ix2 0 c)) := by
  unfold k0_pay13; rw [hy]
  pointwise [k0_pay1, k0_pay10, k0_pay11, k0_pay12]

theorem norm2_apply (y : FVec Ideal S512x1024 .f32) (r : Fin 512) (c : Fin 1024) : k0_pay2 y x gt gp (ix3 0 r c)
      = x (ix3 0 r c) + gt (ix3 0 0 c) * (y (ix2 r c) * Ideal.rsqrt (Ideal.div (∑ j, y (ix2 r j) * y (ix2 r j)) (Ideal.ofBits .f32 0x44800000#32)
    + Ideal.ofBits .f32 0x358637BD#32) * gp (ix2 0 c)) := by
  pointwise [k0_pay2]

theorem half1_apply (r : Fin 512) (c : Fin 1024) :
    k0_pay1 (k0_pay8 (k0_pay3 f wf) (k0_pay6 gb) (k0_pay7 a wa ga) wo) (k0_pay10 x) (k0_pay11 gt) (k0_pay12 gp) (k0_pay13 (k0_pay3 f wf) (k0_pay6 gb) (k0_pay7 a wa ga) wo) (ix3 0 r c)
      = tileRow a f ga gb x gt gp wa wo wf r c := by
  rw [norm1_apply _ _ _ _ _ _ _ _ rfl]
  simp only [proj_apply]
  rfl

theorem half2_apply (r : Fin 512) (c : Fin 1024) :
    k0_pay2 (k0_pay9 (k0_pay4 a wa) (k0_pay5 f wf) ga gb wo) x gt gp (ix3 0 r c) = tileRow a f ga gb x gt gp wa wo wf r c := by
  rw [norm2_apply]
  simp only [proj2_apply]
  rfl

end

end Cert.MergeIdeal.Step

end
-- ==== Proof.MergeIdealValue.lean ====
/- The merge call's result array: every row the row function of the operands' rows. -/
module

public import proofs.«01_k».proof.Proof.MergeIdealTile
public import Idealize.ShloMosaic.Lib.Pipeline.ValueKit.Geometry

@[expose] public section

set_option maxRecDepth 16384

noncomputable section

namespace Cert.MergeIdeal.Step

open Idealize.ShloMosaic Idealize.ShloMosaic.TcCoe Cert.MergeIdeal Cert.MergeIdeal.Gen
open Idealize.SL Idealize.SL.Sem
open Idealize.ShloMosaic.Pipeline (Dat Cfg Window)

section

variable (x0 : Vec Ideal S1x1024x1024 .bf16) (x1 : Vec Ideal S1x1024x512 .bf16) (x2 : Vec Ideal S1x1024x2048 .bf16) (x3 : Vec Ideal S1x1024x1024 .f32)
  (x4 : Vec Ideal S1x1x1024 .f32) (x5 : Vec Ideal S1x1024 .f32) (x6 : Vec Ideal S1024x1024 .bf16) (x7 : Vec Ideal S512x1024 .bf16) (x8 : Vec Ideal S1024x1024 .bf16)

/-- A step's block from its operands' blocks. -/
def blockRow : Vec Ideal S1x1024x1024 .f32 := fun y =>
  MergeRow.row (fun e => x0 (ix3 0 (y 1) e)) (fun e => x1 (ix3 0 (y 1) e)) (fun e => x2 (ix3 0 (y 1) ⟨e.val, by omega⟩))
    (fun e => x2 (ix3 0 (y 1) ⟨1024 + e.val, by omega⟩)) (fun e j => x6 (ix2 e j)) (fun e j => x7 (ix2 e j)) (fun e j => x8 (ix2 e j))
    (fun e => x3 (ix3 0 (y 1) e)) (fun e => x4 (ix3 0 0 e)) (fun e => x5 (ix2 0 e)) (y 2)

theorem out_val (y : S1x1024x1024.Idx) : out0_9 x0 x1 x2 x3 x4 x5 x6 x7 x8 y = blockRow x0 x1 x2 x3 x4 x5 x6 x7 x8 y := by
  unfold_out out0_9
  refine View.canon_apply_of_pieces (Val := Elt Ideal) (e := .f32) (blockRow x0 x1 x2 x3 x4 x5 x6 x7 x8) _ ?_ y (cover0_9 _ _ y)
  simp only [List.forall_mem_cons, List.not_mem_nil, false_imp_iff, implies_true, and_true]
  refine ⟨fun x => ?_, fun x => ?_⟩
  · obtain ⟨r, d, rfl⟩ : ∃ (r : Fin 512) (d : Fin 1024), x = ix3 0 r d :=
      ⟨x 1, x 2, by rw [eq_ix3 x]; congr 1; exact Subsingleton.elim _ _⟩
    refine (half2_apply _ _ _ _ _ _ _ _ _ _ r d).trans ?_
    pointwise [tileRow, blockRow]
    simp only [show r0_4.emb (ix3 0 r d) 1 = (⟨512 + r.val, by omega⟩ : Fin 1024) from Fin.ext (by show 512 + 1 * r.val = _; rw [one_mul]),
      show r0_4.emb (ix3 0 r d) 2 = d from Fin.ext (by show 0 + 1 * d.val = d.val; omega)]
  · obtain ⟨r, d, rfl⟩ : ∃ (r : Fin 512) (d : Fin 1024), x = ix3 0 r d :=
      ⟨x 1, x 2, by rw [eq_ix3 x]; congr 1; exact Subsingleton.elim _ _⟩
    refine (half1_apply _ _ _ _ _ _ _ _ _ _ r d).trans ?_
    pointwise [tileRow, blockRow]
    simp only [show r0_0.emb (ix3 0 r d) 1 = (⟨r.val, by have := r.isLt; omega⟩ : Fin 1024) from Fin.ext (by show 0 + 1 * r.val = r.val; omega),
      show r0_0.emb (ix3 0 r d) 2 = d from Fin.ext (by show 0 + 1 * d.val = d.val; omega)]

end

theorem index0 : ∀ t : Fin grid0.N, win0_0.index t = ![(grid0.coords t 0).val, (grid0.coords t 1).val, 0] := by decide +kernel
theorem index1 : ∀ t : Fin grid0.N, win0_1.index t = ![(grid0.coords t 0).val, (grid0.coords t 1).val, 0] := by decide +kernel
theorem index2 : ∀ t : Fin grid0.N, win0_2.index t = ![(grid0.coords t 0).val, (grid0.coords t 1).val, 0] := by decide +kernel
theorem index3 : ∀ t : Fin grid0.N, win0_3.index t = ![(grid0.coords t 0).val, (grid0.coords t 1).val, 0] := by decide +kernel
theorem index4 : ∀ t : Fin grid0.N, win0_4.index t = ![(grid0.coords t 0).val, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![(grid0.coords t 0).val, (grid0.coords t 1).val, 0] := by decide +kernel

variable (m : (ℓ : Loc nD τ sig) → Buf (Elt Ideal) ℓ)

/-! The weights reach the region cast and the gain reshaped. -/

theorem V_gain (c : Dev nD) (e : Fin 1024) : V m c (Pipeline.arrRef spec0 5) (ix2 0 e) = m ((c.tc : Thread nD τ).loc main_arg5) (ix1 e) := by
  have h : V m c (Pipeline.arrRef spec0 5) = shapeCast S1x1024 (m ((c.tc : Thread nD τ).loc main_arg5)) shapeCasts_S1024_S1x1024 := by
    unfold V hostOps0; after_results <;> rfl
  rw [h]
  pointwise
theorem V_wa (c : Dev nD) : V m c (Pipeline.arrRef spec0 6) = m ((c.tc : Thread nD τ).loc main_arg6) := by
  unfold V hostOps0; after_results <;> rfl
theorem V_wf (c : Dev nD) : V m c (Pipeline.arrRef spec0 7) = m ((c.tc : Thread nD τ).loc main_arg7) := by
  unfold V hostOps0; after_results <;> rfl
theorem V_wo (c : Dev nD) : V m c (Pipeline.arrRef spec0 8) = m ((c.tc : Thread nD τ).loc main_arg8) := by
  unfold V hostOps0; after_results <;> rfl

set_option maxHeartbeats 2000000 in
/-- The result array after the run. -/
theorem final (c : Dev nD) : (dats m 0 c).arrAt 9 cfg0.N = MergeRow.array (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) := by
  refine (dats m 0 c).arrAt_eq_of_covers 9 _ (by decide +kernel) fun t hf y => ?_
  have e0 := index0 t; have e1 := index1 t; have e2 := index2 t; have e3 := index3 t; have e4 := index4 t
  have e5 := index5 t; have e6 := index6 t; have e7 := index7 t; have e8 := index8 t; have e9 := index9 t
  blk_simp
  rw [after0_9, out_val]
  unfold blockRow MergeRow.array
  refine MergeRow.row_congr (fun e => ?_) (fun e => ?_) (fun e => ?_) (fun e => ?_) (fun e j => ?_) (fun e j => ?_) (fun e j => ?_) (fun e => ?_)
    (fun e => ?_) (fun e => ?_) ?_
  · exact (congrFun (V_main_arg0 m c) _).trans (congrArg _ (by blk_ext [e0, e9]))
  · exact (congrFun (V_main_arg1 m c) _).trans (congrArg _ (by blk_ext [e1, e9]))
  · exact (congrFun (V_main_arg2 m c) _).trans (congrArg _ (by blk_ext [e2, e9]))
  · exact (congrFun (V_main_arg2 m c) _).trans (congrArg _ (by blk_ext [e2, e9]))
  · exact (congrFun (V_wa m c) _).trans (congrArg _ (by blk_ext [e6]))
  · exact (congrFun (V_wf m c) _).trans (congrArg _ (by blk_ext [e7]))
  · exact (congrFun (V_wo m c) _).trans (congrArg _ (by blk_ext [e8]))
  · exact (congrFun (V_main_arg3 m c) _).trans (congrArg _ (by blk_ext [e3, e9]))
  · exact (congrFun (V_main_arg4 m c) _).trans (congrArg _ (by blk_ext [e4, e9]))
  · exact (congrArg (V m c (Pipeline.arrRef spec0 5)) (by blk_ext [e5])).trans (V_gain m c e)
  · apply Fin.ext; blk_simp [e9]

end Cert.MergeIdeal.Step

end
-- ==== Proof.MergeRefValue.lean ====
/- The reference merge read at an index. -/
module

public import proofs.«01_k».proof.Proof.MergeRow
public import proofs.«01_k».proof.Proof.Gen.MergeRefIdeal
public import proofs.«01_k».proof.Proof.Gen.MergeRefIdeal.Run

@[expose] public section

set_option maxRecDepth 16384

noncomputable section

namespace Cert.MergeRefIdeal.Value

open Cert.MergeRefIdeal Cert.MergeRefIdeal.Gen Idealize.ShloMosaic Idealize.ShloMosaic.TcCoe

theorem logistic_fold (x : EReal) : Ideal.div 1 (1 + Ideal.exp (-x)) = Ideal.logistic x := rfl

variable (m : (ℓ : Loc nD τ sig) → Buf (Elt Ideal) ℓ) (c : Dev nD)

/-- The row function at every row of the arguments. -/
abbrev val : Buf (Elt Ideal) ((c.tc : Thread nD τ).loc main_v38) :=
  MergeRow.array (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem res_apply (b : Fin 32) (r : Fin 2048) (j : Fin 1024) : res_out0 m c (ix3 b r j) = val m c (ix3 b r j) := by
  pointwise [res_out0, res_main_v38]
  simp only [logistic_fold, val, MergeRow.array, MergeRow.row, MergeRow.proj, MergeRow.merged]
  rfl

theorem res_eq : res_out0 m c = val m c := by
  funext y
  idx_vars y
  exact res_apply m c _ _ _

end Cert.MergeRefIdeal.Value

end
-- ==== Proof.MergeClaims.lean ====
/- The merge call's claims. -/
module

public import proofs.«01_k».proof.Defs
public import proofs.«01_k».proof.Proof.Gen.Merge.Frame
public import proofs.«01_k».proof.Proof.MergeIdealValue
public import proofs.«01_k».proof.Proof.MergeRefValue
public import Idealize.ShloMosaic.Lib.Quiescent

@[expose] public section

set_option maxRecDepth 16384

noncomputable section

namespace Cert.Proof

open Idealize.ShloMosaic Idealize.SL.Sem

theorem frame_Merge : Cert.quiescent_Merge := fun m ρ _ => Cert.Merge.Gen.frame m ρ

theorem frame_MergeIdeal : Cert.quiescent_MergeIdeal := fun m ρ _ => Cert.MergeIdeal.Gen.frame m ρ

theorem frame_MergeRef : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

theorem value_Merge : Cert.algebraic_MergeIdeal_MergeRefIdeal := by
  intro m ρ m' ρ' _ hagree
  refine ⟨fun c => (Cert.MergeIdeal.Gen.dats m 0 c).arrAt 9 Cert.MergeIdeal.cfg0.N, Cert.MergeIdeal.Value.run_blocks m ρ, ?_⟩
  refine (θ_run Cert.MergeRefIdeal.defs _ _).mono (fun r h c => ⟨(h c).1.trans ?_, (h c).2⟩) (Cert.MergeRefIdeal.Value.run (F := Ideal) m' ρ')
  obtain ⟨e0, e1, e2, e3, e4, e5, e6, e7, e8⟩ := hagree c
  refine (Cert.MergeRefIdeal.Value.res_eq m' c).trans (Eq.trans ?_ (Cert.MergeIdeal.Step.final m c).symm)
  unfold Cert.MergeRefIdeal.Value.val
  rw [e0, e1, e2, e3, e4, e5, e6, e7, e8]

end Cert.Proof

end
-- ==== Proof.PreIdealFrame.lean ====
/- The projections' frame: what each result's buffer holds after the body, the body's triple, the run. The steps are those of
   the generated frame, with more heartbeats for the body's triple and for the run. -/
module

public import proofs.«01_k».proof.Proof.Gen.PreIdeal.Launch
public import proofs.«01_k».proof.Proof.Gen.PreIdeal.Skeleton
public import proofs.«01_k».proof.Proof.Gen.PreIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384
set_option maxHeartbeats 6000000

noncomputable section

namespace Cert.PreIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_PreIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x512 := Rect.unit (s := S1024x512) ![0, 0] S1024x512.size inb_S1024x512_S1024x512_0_0
abbrev r0_4 : Rect S1024x256 := Rect.unit (s := S1024x256) ![0, 0] S1024x256.size inb_S1024x256_S1024x256_0_0
abbrev r0_5 : Rect S1024x128 := Rect.unit (s := S1024x128) ![0, 0] S1024x128.size inb_S1024x128_S1024x128_0_0
abbrev r0_6 : Rect S1x512 := Rect.unit (s := S1x512) ![0, 0] S1x512.size inb_S1x512_S1x512_0_0
abbrev r0_7 : Rect S1x256 := Rect.unit (s := S1x256) ![0, 0] S1x256.size inb_S1x256_S1x256_0_0
abbrev r0_8 : Rect S512x128 := Rect.unit (s := S512x128) ![0, 0] S512x128.size inb_S512x128_S512x128_0_0
abbrev r0_9 : Rect S512x1024 := Rect.unit (s := S512x1024) ![0, 0] S512x1024.size inb_S512x1024_S512x1024_0_0
abbrev r0_10 : Rect S512x512 := Rect.unit (s := S512x512) ![0, 0] S512x512.size inb_S512x512_S512x512_0_0
abbrev r0_11 : Rect S256x1024 := Rect.unit (s := S256x1024) ![0, 0] S256x1024.size inb_S256x1024_S256x1024_0_0
abbrev r0_12 : Rect S1x512x512 := Rect.unit (s := S1x512x512) ![0, 0, 0] S1x512x512.size inb_S1x512x512_S1x512x512_0_0_0
abbrev r0_13 : Rect S1024x2048 := Rect.unit (s := S1024x2048) ![0, 0] S1024x2048.size inb_S1024x2048_S1024x2048_0_0
abbrev r0_14 : Rect S1x512x2048 := Rect.unit (s := S1x512x2048) ![0, 0, 0] S1x512x2048.size inb_S1x512x2048_S1x512x2048_0_0_0
abbrev r0_15 : Rect S1x1024x512 := Rect.unit (s := S1x1024x512) ![0, 0, 0] S1x1024x512.size inb_S1x1024x512_S1x1024x512_0_0_0
abbrev r0_16 : Rect S1x512x2048 := Rect.unit (s := S1x512x2048) ![0, 0, 0] S1x512x128.size inb_S1x512x2048_S1x512x128_0_0_0
abbrev r0_17 : Rect S1x512x2048 := Rect.unit (s := S1x512x2048) ![0, 0, 128] S1x512x128.size inb_S1x512x2048_S1x512x128_0_0_128
abbrev r0_18 : Rect S1x512x2048 := Rect.unit (s := S1x512x2048) ![0, 0, 256] S1x512x128.size inb_S1x512x2048_S1x512x128_0_0_256
abbrev r0_19 : Rect S1x512x2048 := Rect.unit (s := S1x512x2048) ![0, 0, 384] S1x512x128.size inb_S1x512x2048_S1x512x128_0_0_384
abbrev r0_20 : Rect S1x512x2048 := Rect.unit (s := S1x512x2048) ![0, 0, 512] S1x512x128.size inb_S1x512x2048_S1x512x128_0_0_512
abbrev r0_21 : Rect S1x512x2048 := Rect.unit (s := S1x512x2048) ![0, 0, 640] S1x512x128.size inb_S1x512x2048_S1x512x128_0_0_640
abbrev r0_22 : Rect S1x512x2048 := Rect.unit (s := S1x512x2048) ![0, 0, 768] S1x512x128.size inb_S1x512x2048_S1x512x128_0_0_768
abbrev r0_23 : Rect S1x512x2048 := Rect.unit (s := S1x512x2048) ![0, 0, 896] S1x512x128.size inb_S1x512x2048_S1x512x128_0_0_896
abbrev r0_24 : Rect S1x512x2048 := Rect.unit (s := S1x512x2048) ![0, 0, 1024] S1x512x128.size inb_S1x512x2048_S1x512x128_0_0_1024
abbrev r0_25 : Rect S1x512x2048 := Rect.unit (s := S1x512x2048) ![0, 0, 1152] S1x512x128.size inb_S1x512x2048_S1x512x128_0_0_1152
abbrev r0_26 : Rect S1x512x2048 := Rect.unit (s := S1x512x2048) ![0, 0, 1280] S1x512x128.size inb_S1x512x2048_S1x512x128_0_0_1280
abbrev r0_27 : Rect S1x512x2048 := Rect.unit (s := S1x512x2048) ![0, 0, 1408] S1x512x128.size inb_S1x512x2048_S1x512x128_0_0_1408
abbrev r0_28 : Rect S1x512x2048 := Rect.unit (s := S1x512x2048) ![0, 0, 1536] S1x512x128.size inb_S1x512x2048_S1x512x128_0_0_1536
abbrev r0_29 : Rect S1x512x2048 := Rect.unit (s := S1x512x2048) ![0, 0, 1664] S1x512x128.size inb_S1x512x2048_S1x512x128_0_0_1664
abbrev r0_30 : Rect S1x512x2048 := Rect.unit (s := S1x512x2048) ![0, 0, 1792] S1x512x128.size inb_S1x512x2048_S1x512x128_0_0_1792
abbrev r0_31 : Rect S1x512x2048 := Rect.unit (s := S1x512x2048) ![0, 0, 1920] S1x512x128.size inb_S1x512x2048_S1x512x128_0_0_1920
abbrev r0_32 : Rect S16x512 := Rect.unit (s := S16x512) ![0, 0] S16x512.size inb_S16x512_S16x512_0_0
abbrev r0_33 : Rect S1x4x512 := Rect.unit (s := S1x4x512) ![0, 0, 0] S1x4x512.size inb_S1x4x512_S1x4x512_0_0_0

/-! ## What the body leaves in each output window's buffer -/

/-! ### Values of the body that the stores' payloads, spelt out, would write more than once

    Each is a vector the body binds (often a part call's result), stated over the input windows' blocks and
    numbered on from the skeleton's payload functions (`k0_pay108` …, after `k0_pay107`), so that
    `out0_W` and the values after it name it instead of spelling it out (`unfold_out out0_W` opens a canon
    with them, `unfold_payloads` opens them with the payloads); the comment after each is the printed function's
    name for the value (a count appended where that name is bound again). -/

def k0_pay108 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x1024 .bf16 :=
  k0_pay3 (View.ld x0 r0_0) (View.ld x3 r0_1) (View.ld x2 r0_2) (View.ld x1 r0_2)
def k0_pay109 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : IVec S512x128 32 :=
  iota .tc S512x128 32 [1] iota_S512x128_d1_w32
def k0_pay110 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x512 .bf16 :=
  k0_pay8 (k0_pay4 (View.ld x0 r0_0) (View.ld x3 r0_1) (View.ld x2 r0_2) (View.ld x1 r0_2) (View.ld x4 r0_3)) (View.ld x9 r0_6)
def k0_pay111 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x256 .bf16 :=
  k0_pay9 (k0_pay5 (View.ld x0 r0_0) (View.ld x3 r0_1) (View.ld x2 r0_2) (View.ld x1 r0_2) (View.ld x5 r0_4)) (View.ld x10 r0_7)
def k0_pay112 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay10 (View.ld x16 r0_8)
def k0_pay113 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay11 (View.ld x17 r0_8)
def k0_pay114 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : IVec S512x128 32 :=
  k0_pay12
def k0_pay115 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : IVec S512x128 32 :=
  k0_pay13
def k0_pay116 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : IVec S512x128 1 :=
  k0_pay14 (Scalar.select (Scalar.cmpi .eq 64#32 0#32) 1#32 64#32) (k0_pay114 x0 x1 x2 x3 x4 x5 x6 x7 x8 x9 x10 x11 x12 x13 x14 x15 x16 x17) (k0_pay115 x0 x1 x2 x3 x4 x5 x6 x7 x8 x9 x10 x11 x12 x13 x14 x15 x16 x17)
def k0_pay117 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay15 (k0_pay7 (k0_pay108 x0 x1 x2 x3 x4 x5 x6 x7 x8 x9 x10 x11 x12 x13 x14 x15 x16 x17) (k0_pay6 (View.ld x6 r0_5))) (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (Scalar.select (Scalar.cmpi .eq 64#32 0#32) 1#32 64#32) (k0_pay114 x0 x1 x2 x3 x4 x5 x6 x7 x8 x9 x10 x11 x12 x13 x14 x15 x16 x17) (k0_pay115 x0 x1 x2 x3 x4 x5 x6 x7 x8 x9 x10 x11 x12 x13 x14 x15 x16 x17)
def k0_pay118 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x1024 .f32 :=
  k0_pay16 (k0_pay110 x0 x1 x2 x3 x4 x5 x6 x7 x8 x9 x10 x11 x12 x13 x14 x15 x16 x17) (View.ld x11 r0_9)
def k0_pay119 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x512 .f32 :=
  k0_pay17 (k0_pay110 x0 x1 x2 x3 x4 x5 x6 x7 x8 x9 x10 x11 x12 x13 x14 x15 x16 x17) (View.ld x12 r0_10)
def k0_pay120 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x1024 .f32 :=
  k0_pay18 (k0_pay111 x0 x1 x2 x3 x4 x5 x6 x7 x8 x9 x10 x11 x12 x13 x14 x15 x16 x17) (View.ld x13 r0_11)
def k0_pay121 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay22 (k0_pay117 x0 x1 x2 x3 x4 x5 x6 x7 x8 x9 x10 x11 x12 x13 x14 x15 x16 x17)
def k0_pay122 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay24 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay109 x0 x1 x2 x3 x4 x5 x6 x7 x8 x9 x10 x11 x12 x13 x14 x15 x16 x17) (k0_pay116 x0 x1 x2 x3 x4 x5 x6 x7 x8 x9 x10 x11 x12 x13 x14 x15 x16 x17) (k0_pay119 x0 x1 x2 x3 x4 x5 x6 x7 x8 x9 x10 x11 x12 x13 x14 x15 x16 x17)
def k0_pay123 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay25 (k0_pay120 x0 x1 x2 x3 x4 x5 x6 x7 x8 x9 x10 x11 x12 x13 x14 x15 x16 x17)
def k0_pay124 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay32 (k0_pay118 x0 x1 x2 x3 x4 x5 x6 x7 x8 x9 x10 x11 x12 x13 x14 x15 x16 x17)
def k0_pay125 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay33 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay109 x0 x1 x2 x3 x4 x5 x6 x7 x8 x9 x10 x11 x12 x13 x14 x15 x16 x17) (k0_pay116 x0 x1 x2 x3 x4 x5 x6 x7 x8 x9 x10 x11 x12 x13 x14 x15 x16 x17) (k0_pay119 x0 x1 x2 x3 x4 x5 x6 x7 x8 x9 x10 x11 x12 x13 x14 x15 x16 x17)
def k0_pay126 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay34 (k0_pay120 x0 x1 x2 x3 x4 x5 x6 x7 x8 x9 x10 x11 x12 x13 x14 x15 x16 x17)
def k0_pay127 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay41 (k0_pay118 x0 x1 x2 x3 x4 x5 x6 x7 x8 x9 x10 x11 x12 x13 x14 x15 x16 x17)
def k0_pay128 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay42 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay109 x0 x1 x2 x3 x4 x5 x6 x7 x8 x9 x10 x11 x12 x13 x14 x15 x16 x17) (k0_pay116 x0 x1 x2 x3 x4 x5 x6 x7 x8 x9 x10 x11 x12 x13 x14 x15 x16 x17) (k0_pay119 x0 x1 x2 x3 x4 x5 x6 x7 x8 x9 x10 x11 x12 x13 x14 x15 x16 x17)
def k0_pay129 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay43 (k0_pay120 x0 x1 x2 x3 x4 x5 x6 x7 x8 x9 x10 x11 x12 x13 x14 x15 x16 x17)
def k0_pay130 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay50 (k0_pay118 x0 x1 x2 x3 x4 x5 x6 x7 x8 x9 x10 x11 x12 x13 x14 x15 x16 x17)
def k0_pay131 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay51 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay109 x0 x1 x2 x3 x4 x5 x6 x7 x8 x9 x10 x11 x12 x13 x14 x15 x16 x17) (k0_pay116 x0 x1 x2 x3 x4 x5 x6 x7 x8 x9 x10 x11 x12 x13 x14 x15 x16 x17) (k0_pay119 x0 x1 x2 x3 x4 x5 x6 x7 x8 x9 x10 x11 x12 x13 x14 x15 x16 x17)
def k0_pay132 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay60 (k0_pay118 x0 x1 x2 x3 x4 x5 x6 x7 x8 x9 x10 x11 x12 x13 x14 x15 x16 x17)
def k0_pay133 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay61 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay109 x0 x1 x2 x3 x4 x5 x6 x7 x8 x9 x10 x11 x12 x13 x14 x15 x16 x17) (k0_pay116 x0 x1 x2 x3 x4 x5 x6 x7 x8 x9 x10 x11 x12 x13 x14 x15 x16 x17) (k0_pay119 x0 x1 x2 x3 x4 x5 x6 x7 x8 x9 x10 x11 x12 x13 x14 x15 x16 x17)
def k0_pay134 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay70 (k0_pay118 x0 x1 x2 x3 x4 x5 x6 x7 x8 x9 x10 x11 x12 x13 x14 x15 x16 x17)
def k0_pay135 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay71 (k0_pay109 x0 x1 x2 x3 x4 x5 x6 x7 x8 x9 x10 x11 x12 x13 x14 x15 x16 x17) (k0_pay119 x0 x1 x2 x3 x4 x5 x6 x7 x8 x9 x10 x11 x12 x13 x14 x15 x16 x17)
def k0_pay136 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay72 (k0_pay109 x0 x1 x2 x3 x4 x5 x6 x7 x8 x9 x10 x11 x12 x13 x14 x15 x16 x17) (k0_pay116 x0 x1 x2 x3 x4 x5 x6 x7 x8 x9 x10 x11 x12 x13 x14 x15 x16 x17) (k0_pay119 x0 x1 x2 x3 x4 x5 x6 x7 x8 x9 x10 x11 x12 x13 x14 x15 x16 x17)
def k0_pay137 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay81 (k0_pay118 x0 x1 x2 x3 x4 x5 x6 x7 x8 x9 x10 x11 x12 x13 x14 x15 x16 x17)
def k0_pay138 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay82 (k0_pay109 x0 x1 x2 x3 x4 x5 x6 x7 x8 x9 x10 x11 x12 x13 x14 x15 x16 x17) (k0_pay119 x0 x1 x2 x3 x4 x5 x6 x7 x8 x9 x10 x11 x12 x13 x14 x15 x16 x17)
def k0_pay139 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay83 (k0_pay109 x0 x1 x2 x3 x4 x5 x6 x7 x8 x9 x10 x11 x12 x13 x14 x15 x16 x17) (k0_pay119 x0 x1 x2 x3 x4 x5 x6 x7 x8 x9 x10 x11 x12 x13 x14 x15 x16 x17)
def k0_pay140 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .bf16 :=
  k0_pay92 (k0_pay118 x0 x1 x2 x3 x4 x5 x6 x7 x8 x9 x10 x11 x12 x13 x14 x15 x16 x17)
def k0_pay141 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay93 (k0_pay119 x0 x1 x2 x3 x4 x5 x6 x7 x8 x9 x10 x11 x12 x13 x14 x15 x16 x17)
def k0_pay142 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : IVec S512x128 1 :=
  k0_pay94 (k0_pay109 x0 x1 x2 x3 x4 x5 x6 x7 x8 x9 x10 x11 x12 x13 x14 x15 x16 x17)
def k0_pay143 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : FVec F S512x128 .f32 :=
  k0_pay95 (F := F)

/-- Window 18's staging buffer after the body, from the input windows' blocks: its 16 stores as pieces, LAST
    FIRST (Lib/Pipeline/FrameBody.lean `View.canon`; the payloads are the skeleton's and the values stated above). -/
def out0_18 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : Vec F S1x512x2048 .bf16 :=
  View.canon [⟨r0_31, k0_pay99 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay116 x0 x1 x2 x3 x4 x5 x6 x7 x8 x9 x10 x11 x12 x13 x14 x15 x16 x17) (k0_pay141 x0 x1 x2 x3 x4 x5 x6 x7 x8 x9 x10 x11 x12 x13 x14 x15 x16 x17) (k0_pay142 x0 x1 x2 x3 x4 x5 x6 x7 x8 x9 x10 x11 x12 x13 x14 x15 x16 x17) (k0_pay143 x0 x1 x2 x3 x4 x5 x6 x7 x8 x9 x10 x11 x12 x13 x14 x15 x16 x17)⟩,
    ⟨r0_30, k0_pay98 (k0_pay140 x0 x1 x2 x3 x4 x5 x6 x7 x8 x9 x10 x11 x12 x13 x14 x15 x16 x17)⟩,
    ⟨r0_29, k0_pay87 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay116 x0 x1 x2 x3 x4 x5 x6 x7 x8 x9 x10 x11 x12 x13 x14 x15 x16 x17) (k0_pay138 x0 x1 x2 x3 x4 x5 x6 x7 x8 x9 x10 x11 x12 x13 x14 x15 x16 x17) (k0_pay139 x0 x1 x2 x3 x4 x5 x6 x7 x8 x9 x10 x11 x12 x13 x14 x15 x16 x17) 32#32⟩,
    ⟨r0_28, k0_pay86 (k0_pay137 x0 x1 x2 x3 x4 x5 x6 x7 x8 x9 x10 x11 x12 x13 x14 x15 x16 x17)⟩,
    ⟨r0_27, k0_pay76 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay135 x0 x1 x2 x3 x4 x5 x6 x7 x8 x9 x10 x11 x12 x13 x14 x15 x16 x17) (k0_pay136 x0 x1 x2 x3 x4 x5 x6 x7 x8 x9 x10 x11 x12 x13 x14 x15 x16 x17)⟩,
    ⟨r0_26, k0_pay75 (k0_pay134 x0 x1 x2 x3 x4 x5 x6 x7 x8 x9 x10 x11 x12 x13 x14 x15 x16 x17)⟩,
    ⟨r0_25, k0_pay65 (k0_pay133 x0 x1 x2 x3 x4 x5 x6 x7 x8 x9 x10 x11 x12 x13 x14 x15 x16 x17) (Scalar.ofBits .f32 0x3DD53B95#32)⟩,
    ⟨r0_24, k0_pay64 (k0_pay132 x0 x1 x2 x3 x4 x5 x6 x7 x8 x9 x10 x11 x12 x13 x14 x15 x16 x17)⟩,
    ⟨r0_23, k0_pay55 (k0_pay131 x0 x1 x2 x3 x4 x5 x6 x7 x8 x9 x10 x11 x12 x13 x14 x15 x16 x17)⟩,
    ⟨r0_22, k0_pay54 (k0_pay130 x0 x1 x2 x3 x4 x5 x6 x7 x8 x9 x10 x11 x12 x13 x14 x15 x16 x17)⟩,
    ⟨r0_21, k0_pay45 (k0_pay128 x0 x1 x2 x3 x4 x5 x6 x7 x8 x9 x10 x11 x12 x13 x14 x15 x16 x17)⟩,
    ⟨r0_20, k0_pay44 (k0_pay127 x0 x1 x2 x3 x4 x5 x6 x7 x8 x9 x10 x11 x12 x13 x14 x15 x16 x17)⟩,
    ⟨r0_19, k0_pay36 (k0_pay125 x0 x1 x2 x3 x4 x5 x6 x7 x8 x9 x10 x11 x12 x13 x14 x15 x16 x17)⟩,
    ⟨r0_18, k0_pay35 (k0_pay124 x0 x1 x2 x3 x4 x5 x6 x7 x8 x9 x10 x11 x12 x13 x14 x15 x16 x17)⟩,
    ⟨r0_17, k0_pay27 (k0_pay122 x0 x1 x2 x3 x4 x5 x6 x7 x8 x9 x10 x11 x12 x13 x14 x15 x16 x17)⟩,
    ⟨r0_16, k0_pay26 (k0_pay118 x0 x1 x2 x3 x4 x5 x6 x7 x8 x9 x10 x11 x12 x13 x14 x15 x16 x17)⟩]

/-- Its stores tile the buffer (checked by evaluation), so they cover it. -/
theorem cover0_18 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (p8 : Vec F S1x512x128 .bf16) (p9 : Vec F S1x512x128 .bf16) (p10 : Vec F S1x512x128 .bf16) (p11 : Vec F S1x512x128 .bf16) (p12 : Vec F S1x512x128 .bf16) (p13 : Vec F S1x512x128 .bf16) (p14 : Vec F S1x512x128 .bf16) (p15 : Vec F S1x512x128 .bf16) (y : S1x512x2048.Idx) :
    ∃ pc ∈ ([⟨r0_31, p0⟩, ⟨r0_30, p1⟩, ⟨r0_29, p2⟩, ⟨r0_28, p3⟩, ⟨r0_27, p4⟩, ⟨r0_26, p5⟩, ⟨r0_25, p6⟩, ⟨r0_24, p7⟩, ⟨r0_23, p8⟩, ⟨r0_22, p9⟩, ⟨r0_21, p10⟩, ⟨r0_20, p11⟩, ⟨r0_19, p12⟩, ⟨r0_18, p13⟩, ⟨r0_17, p14⟩, ⟨r0_16, p15⟩] : List (View.Piece (Elt F) S1x512x2048 .bf16)), y ∈ pc.1.set :=
  View.cover_of_tiled [⟨r0_31, p0⟩, ⟨r0_30, p1⟩, ⟨r0_29, p2⟩, ⟨r0_28, p3⟩, ⟨r0_27, p4⟩, ⟨r0_26, p5⟩, ⟨r0_25, p6⟩, ⟨r0_24, p7⟩, ⟨r0_23, p8⟩, ⟨r0_22, p9⟩, ⟨r0_21, p10⟩, ⟨r0_20, p11⟩, ⟨r0_19, p12⟩, ⟨r0_18, p13⟩, ⟨r0_17, p14⟩, ⟨r0_16, p15⟩] S1x512x128.size (by rfl) y

/-- Window 19's staging buffer after the body, from the input windows' blocks: its 16 stores as pieces, LAST
    FIRST (Lib/Pipeline/FrameBody.lean `View.canon`; the payloads are the skeleton's and the values stated above). -/
def out0_19 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : Vec F S1x512x2048 .bf16 :=
  View.canon [⟨r0_31, k0_pay101 (k0_pay117 x0 x1 x2 x3 x4 x5 x6 x7 x8 x9 x10 x11 x12 x13 x14 x15 x16 x17)⟩,
    ⟨r0_30, k0_pay100 (k0_pay120 x0 x1 x2 x3 x4 x5 x6 x7 x8 x9 x10 x11 x12 x13 x14 x15 x16 x17)⟩,
    ⟨r0_29, k0_pay89 (k0_pay117 x0 x1 x2 x3 x4 x5 x6 x7 x8 x9 x10 x11 x12 x13 x14 x15 x16 x17)⟩,
    ⟨r0_28, k0_pay88 (k0_pay120 x0 x1 x2 x3 x4 x5 x6 x7 x8 x9 x10 x11 x12 x13 x14 x15 x16 x17)⟩,
    ⟨r0_27, k0_pay78 (k0_pay117 x0 x1 x2 x3 x4 x5 x6 x7 x8 x9 x10 x11 x12 x13 x14 x15 x16 x17)⟩,
    ⟨r0_26, k0_pay77 (k0_pay120 x0 x1 x2 x3 x4 x5 x6 x7 x8 x9 x10 x11 x12 x13 x14 x15 x16 x17)⟩,
    ⟨r0_25, k0_pay67 (k0_pay117 x0 x1 x2 x3 x4 x5 x6 x7 x8 x9 x10 x11 x12 x13 x14 x15 x16 x17)⟩,
    ⟨r0_24, k0_pay66 (k0_pay120 x0 x1 x2 x3 x4 x5 x6 x7 x8 x9 x10 x11 x12 x13 x14 x15 x16 x17)⟩,
    ⟨r0_23, k0_pay57 (k0_pay117 x0 x1 x2 x3 x4 x5 x6 x7 x8 x9 x10 x11 x12 x13 x14 x15 x16 x17)⟩,
    ⟨r0_22, k0_pay56 (k0_pay120 x0 x1 x2 x3 x4 x5 x6 x7 x8 x9 x10 x11 x12 x13 x14 x15 x16 x17)⟩,
    ⟨r0_21, k0_pay47 (k0_pay117 x0 x1 x2 x3 x4 x5 x6 x7 x8 x9 x10 x11 x12 x13 x14 x15 x16 x17)⟩,
    ⟨r0_20, k0_pay46 (k0_pay129 x0 x1 x2 x3 x4 x5 x6 x7 x8 x9 x10 x11 x12 x13 x14 x15 x16 x17)⟩,
    ⟨r0_19, k0_pay38 (k0_pay117 x0 x1 x2 x3 x4 x5 x6 x7 x8 x9 x10 x11 x12 x13 x14 x15 x16 x17)⟩,
    ⟨r0_18, k0_pay37 (k0_pay126 x0 x1 x2 x3 x4 x5 x6 x7 x8 x9 x10 x11 x12 x13 x14 x15 x16 x17)⟩,
    ⟨r0_17, k0_pay29 (k0_pay117 x0 x1 x2 x3 x4 x5 x6 x7 x8 x9 x10 x11 x12 x13 x14 x15 x16 x17)⟩,
    ⟨r0_16, k0_pay28 (k0_pay123 x0 x1 x2 x3 x4 x5 x6 x7 x8 x9 x10 x11 x12 x13 x14 x15 x16 x17)⟩]

/-- Its stores tile the buffer (checked by evaluation), so they cover it. -/
theorem cover0_19 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (p8 : Vec F S1x512x128 .bf16) (p9 : Vec F S1x512x128 .bf16) (p10 : Vec F S1x512x128 .bf16) (p11 : Vec F S1x512x128 .bf16) (p12 : Vec F S1x512x128 .bf16) (p13 : Vec F S1x512x128 .bf16) (p14 : Vec F S1x512x128 .bf16) (p15 : Vec F S1x512x128 .bf16) (y : S1x512x2048.Idx) :
    ∃ pc ∈ ([⟨r0_31, p0⟩, ⟨r0_30, p1⟩, ⟨r0_29, p2⟩, ⟨r0_28, p3⟩, ⟨r0_27, p4⟩, ⟨r0_26, p5⟩, ⟨r0_25, p6⟩, ⟨r0_24, p7⟩, ⟨r0_23, p8⟩, ⟨r0_22, p9⟩, ⟨r0_21, p10⟩, ⟨r0_20, p11⟩, ⟨r0_19, p12⟩, ⟨r0_18, p13⟩, ⟨r0_17, p14⟩, ⟨r0_16, p15⟩] : List (View.Piece (Elt F) S1x512x2048 .bf16)), y ∈ pc.1.set :=
  View.cover_of_tiled [⟨r0_31, p0⟩, ⟨r0_30, p1⟩, ⟨r0_29, p2⟩, ⟨r0_28, p3⟩, ⟨r0_27, p4⟩, ⟨r0_26, p5⟩, ⟨r0_25, p6⟩, ⟨r0_24, p7⟩, ⟨r0_23, p8⟩, ⟨r0_22, p9⟩, ⟨r0_21, p10⟩, ⟨r0_20, p11⟩, ⟨r0_19, p12⟩, ⟨r0_18, p13⟩, ⟨r0_17, p14⟩, ⟨r0_16, p15⟩] S1x512x128.size (by rfl) y

/-- Window 20's staging buffer after the body, from the input windows' blocks: its 1 store as pieces, LAST
    FIRST (Lib/Pipeline/FrameBody.lean `View.canon`; the payloads are the skeleton's and the values stated above). -/
def out0_20 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : Vec F S1x1024x512 .bf16 :=
  View.canon [⟨r0_15, k0_pay21 (k0_pay111 x0 x1 x2 x3 x4 x5 x6 x7 x8 x9 x10 x11 x12 x13 x14 x15 x16 x17) (View.ld x14 r0_4)⟩]

/-- Its stores tile the buffer (checked by evaluation), so they cover it. -/
theorem cover0_20 (p0 : Vec F S1x1024x512 .bf16) (y : S1x1024x512.Idx) :
    ∃ pc ∈ ([⟨r0_15, p0⟩] : List (View.Piece (Elt F) S1x1024x512 .bf16)), y ∈ pc.1.set :=
  View.cover_of_tiled [⟨r0_15, p0⟩] S1x1024x512.size (by rfl) y

/-- Window 21's staging buffer after the body, from the input windows' blocks: its 1 store as pieces, LAST
    FIRST (Lib/Pipeline/FrameBody.lean `View.canon`; the payloads are the skeleton's and the values stated above). -/
def out0_21 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : Vec F S1x512x512 .bf16 :=
  View.canon [⟨r0_12, k0_pay19 (k0_pay108 x0 x1 x2 x3 x4 x5 x6 x7 x8 x9 x10 x11 x12 x13 x14 x15 x16 x17) (View.ld x7 r0_3)⟩]

/-- Its stores tile the buffer (checked by evaluation), so they cover it. -/
theorem cover0_21 (p0 : Vec F S1x512x512 .bf16) (y : S1x512x512.Idx) :
    ∃ pc ∈ ([⟨r0_12, p0⟩] : List (View.Piece (Elt F) S1x512x512 .bf16)), y ∈ pc.1.set :=
  View.cover_of_tiled [⟨r0_12, p0⟩] S1x512x512.size (by rfl) y

/-- Window 22's staging buffer after the body, from the input windows' blocks: its 1 store as pieces, LAST
    FIRST (Lib/Pipeline/FrameBody.lean `View.canon`; the payloads are the skeleton's and the values stated above). -/
def out0_22 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : Vec F S1x512x2048 .bf16 :=
  View.canon [⟨r0_14, k0_pay20 (k0_pay108 x0 x1 x2 x3 x4 x5 x6 x7 x8 x9 x10 x11 x12 x13 x14 x15 x16 x17) (View.ld x8 r0_13)⟩]

/-- Its stores tile the buffer (checked by evaluation), so they cover it. -/
theorem cover0_22 (p0 : Vec F S1x512x2048 .bf16) (y : S1x512x2048.Idx) :
    ∃ pc ∈ ([⟨r0_14, p0⟩] : List (View.Piece (Elt F) S1x512x2048 .bf16)), y ∈ pc.1.set :=
  View.cover_of_tiled [⟨r0_14, p0⟩] S1x512x2048.size (by rfl) y

/-- Window 23's staging buffer after the body, from the input windows' blocks: its 1 store as pieces, LAST
    FIRST (Lib/Pipeline/FrameBody.lean `View.canon`; the payloads are the skeleton's and the values stated above). -/
def out0_23 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : Vec F S1x4x512 .f32 :=
  View.canon [⟨r0_33, k0_pay1 (k0_pay90 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay116 x0 x1 x2 x3 x4 x5 x6 x7 x8 x9 x10 x11 x12 x13 x14 x15 x16 x17) (k0_pay137 x0 x1 x2 x3 x4 x5 x6 x7 x8 x9 x10 x11 x12 x13 x14 x15 x16 x17) (k0_pay138 x0 x1 x2 x3 x4 x5 x6 x7 x8 x9 x10 x11 x12 x13 x14 x15 x16 x17) (k0_pay139 x0 x1 x2 x3 x4 x5 x6 x7 x8 x9 x10 x11 x12 x13 x14 x15 x16 x17) 32#32) (k0_pay102 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay116 x0 x1 x2 x3 x4 x5 x6 x7 x8 x9 x10 x11 x12 x13 x14 x15 x16 x17) (k0_pay140 x0 x1 x2 x3 x4 x5 x6 x7 x8 x9 x10 x11 x12 x13 x14 x15 x16 x17) (k0_pay141 x0 x1 x2 x3 x4 x5 x6 x7 x8 x9 x10 x11 x12 x13 x14 x15 x16 x17) (k0_pay142 x0 x1 x2 x3 x4 x5 x6 x7 x8 x9 x10 x11 x12 x13 x14 x15 x16 x17) (k0_pay143 x0 x1 x2 x3 x4 x5 x6 x7 x8 x9 x10 x11 x12 x13 x14 x15 x16 x17)) (k0_pay104 (View.ld x15 r0_32)) (k0_pay105 (k0_pay30 (k0_pay23 (k0_pay118 x0 x1 x2 x3 x4 x5 x6 x7 x8 x9 x10 x11 x12 x13 x14 x15 x16 x17)) (k0_pay122 x0 x1 x2 x3 x4 x5 x6 x7 x8 x9 x10 x11 x12 x13 x14 x15 x16 x17)) (k0_pay39 (k0_pay124 x0 x1 x2 x3 x4 x5 x6 x7 x8 x9 x10 x11 x12 x13 x14 x15 x16 x17) (k0_pay125 x0 x1 x2 x3 x4 x5 x6 x7 x8 x9 x10 x11 x12 x13 x14 x15 x16 x17))) (k0_pay106 (k0_pay48 (k0_pay127 x0 x1 x2 x3 x4 x5 x6 x7 x8 x9 x10 x11 x12 x13 x14 x15 x16 x17) (k0_pay128 x0 x1 x2 x3 x4 x5 x6 x7 x8 x9 x10 x11 x12 x13 x14 x15 x16 x17)) (k0_pay58 (k0_pay130 x0 x1 x2 x3 x4 x5 x6 x7 x8 x9 x10 x11 x12 x13 x14 x15 x16 x17) (k0_pay131 x0 x1 x2 x3 x4 x5 x6 x7 x8 x9 x10 x11 x12 x13 x14 x15 x16 x17))) (k0_pay107 (k0_pay68 (k0_pay132 x0 x1 x2 x3 x4 x5 x6 x7 x8 x9 x10 x11 x12 x13 x14 x15 x16 x17) (k0_pay133 x0 x1 x2 x3 x4 x5 x6 x7 x8 x9 x10 x11 x12 x13 x14 x15 x16 x17) (Scalar.ofBits .f32 0x3DD53B95#32)) (k0_pay79 (k0_pay112 x0 x1 x2 x3 x4 x5 x6 x7 x8 x9 x10 x11 x12 x13 x14 x15 x16 x17) (k0_pay113 x0 x1 x2 x3 x4 x5 x6 x7 x8 x9 x10 x11 x12 x13 x14 x15 x16 x17) (k0_pay134 x0 x1 x2 x3 x4 x5 x6 x7 x8 x9 x10 x11 x12 x13 x14 x15 x16 x17) (k0_pay135 x0 x1 x2 x3 x4 x5 x6 x7 x8 x9 x10 x11 x12 x13 x14 x15 x16 x17) (k0_pay136 x0 x1 x2 x3 x4 x5 x6 x7 x8 x9 x10 x11 x12 x13 x14 x15 x16 x17)))⟩]

/-- Its stores tile the buffer (checked by evaluation), so they cover it. -/
theorem cover0_23 (p0 : Vec F S1x4x512 .f32) (y : S1x4x512.Idx) :
    ∃ pc ∈ ([⟨r0_33, p0⟩] : List (View.Piece (Elt F) S1x4x512 .f32)), y ∈ pc.1.set :=
  View.cover_of_tiled [⟨r0_33, p0⟩] S1x4x512.size (by rfl) y

/-- Window 24's staging buffer after the body, from the input windows' blocks: its 1 store as pieces, LAST
    FIRST (Lib/Pipeline/FrameBody.lean `View.canon`; the payloads are the skeleton's and the values stated above). -/
def out0_24 (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) : Vec F S1x4x512 .f32 :=
  View.canon [⟨r0_33, k0_pay2 (k0_pay31 (k0_pay121 x0 x1 x2 x3 x4 x5 x6 x7 x8 x9 x10 x11 x12 x13 x14 x15 x16 x17) (k0_pay123 x0 x1 x2 x3 x4 x5 x6 x7 x8 x9 x10 x11 x12 x13 x14 x15 x16 x17)) (k0_pay40 (k0_pay121 x0 x1 x2 x3 x4 x5 x6 x7 x8 x9 x10 x11 x12 x13 x14 x15 x16 x17) (k0_pay126 x0 x1 x2 x3 x4 x5 x6 x7 x8 x9 x10 x11 x12 x13 x14 x15 x16 x17)) (k0_pay49 (k0_pay121 x0 x1 x2 x3 x4 x5 x6 x7 x8 x9 x10 x11 x12 x13 x14 x15 x16 x17) (k0_pay129 x0 x1 x2 x3 x4 x5 x6 x7 x8 x9 x10 x11 x12 x13 x14 x15 x16 x17)) (k0_pay59 (k0_pay120 x0 x1 x2 x3 x4 x5 x6 x7 x8 x9 x10 x11 x12 x13 x14 x15 x16 x17) (k0_pay121 x0 x1 x2 x3 x4 x5 x6 x7 x8 x9 x10 x11 x12 x13 x14 x15 x16 x17)) (k0_pay69 (k0_pay120 x0 x1 x2 x3 x4 x5 x6 x7 x8 x9 x10 x11 x12 x13 x14 x15 x16 x17) (k0_pay121 x0 x1 x2 x3 x4 x5 x6 x7 x8 x9 x10 x11 x12 x13 x14 x15 x16 x17)) (k0_pay80 (k0_pay120 x0 x1 x2 x3 x4 x5 x6 x7 x8 x9 x10 x11 x12 x13 x14 x15 x16 x17) (k0_pay121 x0 x1 x2 x3 x4 x5 x6 x7 x8 x9 x10 x11 x12 x13 x14 x15 x16 x17)) (k0_pay91 (k0_pay120 x0 x1 x2 x3 x4 x5 x6 x7 x8 x9 x10 x11 x12 x13 x14 x15 x16 x17) (k0_pay121 x0 x1 x2 x3 x4 x5 x6 x7 x8 x9 x10 x11 x12 x13 x14 x15 x16 x17)) (k0_pay103 (k0_pay120 x0 x1 x2 x3 x4 x5 x6 x7 x8 x9 x10 x11 x12 x13 x14 x15 x16 x17) (k0_pay121 x0 x1 x2 x3 x4 x5 x6 x7 x8 x9 x10 x11 x12 x13 x14 x15 x16 x17)) (View.ld x15 r0_32)⟩]

/-- Its stores tile the buffer (checked by evaluation), so they cover it. -/
theorem cover0_24 (p0 : Vec F S1x4x512 .f32) (y : S1x4x512.Idx) :
    ∃ pc ∈ ([⟨r0_33, p0⟩] : List (View.Piece (Elt F) S1x4x512 .f32)), y ∈ pc.1.set :=
  View.cover_of_tiled [⟨r0_33, p0⟩] S1x4x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x256 .bf16) (harg7 : arg7.IsWhole) (arg8 : Memref sig .tc .vmem S1024x128 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S512x1024 .bf16) (harg13 : arg13.IsWhole) (arg14 : Memref sig .tc .vmem S512x512 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S16x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x2048 .bf16) (harg20 : arg20.IsWhole) (arg21 : Memref sig .tc .vmem S1x512x2048 .bf16) (harg21 : arg21.IsWhole) (arg22 : Memref sig .tc .vmem S1x1024x512 .bf16) (harg22 : arg22.IsWhole) (arg23 : Memref sig .tc .vmem S1x512x512 .bf16) (harg23 : arg23.IsWhole) (arg24 : Memref sig .tc .vmem S1x512x2048 .bf16) (harg24 : arg24.IsWhole) (arg25 : Memref sig .tc .vmem S1x4x512 .f32) (harg25 : arg25.IsWhole) (arg26 : Memref sig .tc .vmem S1x4x512 .f32) (harg26 : arg26.IsWhole)
    (x0 : Vec F S1x512x1024 .f32) (x1 : Vec F S1x1x1024 .f32) (x2 : Vec F S1x1x1024 .f32) (x3 : Vec F S1x1024 .f32) (x4 : Vec F S1024x512 .bf16) (x5 : Vec F S1024x256 .bf16) (x6 : Vec F S1024x128 .bf16) (x7 : Vec F S1024x512 .bf16) (x8 : Vec F S1024x2048 .bf16) (x9 : Vec F S1x512 .f32) (x10 : Vec F S1x256 .f32) (x11 : Vec F S512x1024 .bf16) (x12 : Vec F S512x512 .bf16) (x13 : Vec F S256x1024 .bf16) (x14 : Vec F S1024x256 .bf16) (x15 : Vec F S16x512 .bf16) (x16 : Vec F S512x128 .f32) (x17 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare (out0_18 x0 x1 x2 x3 x4 x5 x6 x7 x8 x9 x10 x11 x12 x13 x14 x15 x16 x17) ∗ owns (c : Thread nD τ) arg21 fullShare (out0_19 x0 x1 x2 x3 x4 x5 x6 x7 x8 x9 x10 x11 x12 x13 x14 x15 x16 x17) ∗ owns (c : Thread nD τ) arg22 fullShare (out0_20 x0 x1 x2 x3 x4 x5 x6 x7 x8 x9 x10 x11 x12 x13 x14 x15 x16 x17) ∗ owns (c : Thread nD τ) arg23 fullShare (out0_21 x0 x1 x2 x3 x4 x5 x6 x7 x8 x9 x10 x11 x12 x13 x14 x15 x16 x17) ∗ owns (c : Thread nD τ) arg24 fullShare (out0_22 x0 x1 x2 x3 x4 x5 x6 x7 x8 x9 x10 x11 x12 x13 x14 x15 x16 x17) ∗ owns (c : Thread nD τ) arg25 fullShare (out0_23 x0 x1 x2 x3 x4 x5 x6 x7 x8 x9 x10 x11 x12 x13 x14 x15 x16 x17) ∗ owns (c : Thread nD τ) arg26 fullShare (out0_24 x0 x1 x2 x3 x4 x5 x6 x7 x8 x9 x10 x11 x12 x13 x14 x15 x16 x17)) -∗ K ⟨⟩))
      ⊢ wp frame (wpE (defs₀ (F := F)) Variants.none c none) E (cc0_pre i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_pre_eq_skeleton]; unfold cc0_pre_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _ _ _ _ _ _ _ _ _ _ _ _ _ _ _ _)).trans ?_
    rfl
  isplitl [H19]
  · iexists _; isplitr
    swap; · iexact H19
    ipureintro
    refine (View.read_writes_eq_canon _ _ _ (cover0_19 _ _ _ _ _ _ _ _ _ _ _ _ _ _ _ _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_PreIdeal`'s statement (Defs.lean) at any `F` — Proof.lean cites it at `Bits`:
    `theorem Cert.Proof.claim : Cert.Claim := ⟨Cert.PreIdeal.Gen.facts, fun m ρ _ => Cert.PreIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.PreIdeal.Gen

end
-- ==== Proof.PreIdealBlocks.lean ====
/- The projections' run with its results as arrays written block by block. The steps are those of the generated module. -/
module

public import proofs.«01_k».proof.Proof.PreIdealFrame
public import Idealize.ShloMosaic.Lib.Pipeline.Value

@[expose] public section

noncomputable section

namespace Cert.PreIdeal.Value

open Cert.PreIdeal Cert.PreIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 18).cut (grid0.coords t) ((dats m 0 c).after 18 t) = _
  rw [after0_18]

/-- The index map sends distinct grid points to distinct block indices (decided over the 128 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S32x2048x2048.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 19).cut (grid0.coords t) ((dats m 0 c).after 19 t) = _
  rw [after0_19]

/-- The index map sends distinct grid points to distinct block indices (decided over the 128 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S32x2048x2048.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 20).cut (grid0.coords t) ((dats m 0 c).after 20 t) = _
  rw [after0_20]

/-- The index map sends distinct grid points to distinct block indices (decided over the 128 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S32x1024x2048.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 21).cut (grid0.coords t) ((dats m 0 c).after 21 t) = _
  rw [after0_21]

/-- The index map sends distinct grid points to distinct block indices (decided over the 128 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S32x2048x512.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 22).cut (grid0.coords t) ((dats m 0 c).after 22 t) = _
  rw [after0_22]

/-- The index map sends distinct grid points to distinct block indices (decided over the 128 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S32x2048x2048.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 23).cut (grid0.coords t) ((dats m 0 c).after 23 t) = _
  rw [after0_23]

/-- The index map sends distinct grid points to distinct block indices (decided over the 128 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S32x4x2048.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 24).cut (grid0.coords t) ((dats m 0 c).after 24 t) = _
  rw [after0_24]

/-- The index map sends distinct grid points to distinct block indices (decided over the 128 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S32x4x2048.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v57_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v57_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v57_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v57_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v57_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v57_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v57_6) = (dats m 0 c).arrAt 24 cfg0.N :=
  (h c).1 24

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

set_option maxHeartbeats 205460 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v57_0) = (dats m 0 c).arrAt 18 cfg0.N
      ∧ r.2.mem ((c : Thread nD τ).loc main_v57_1) = (dats m 0 c).arrAt 19 cfg0.N
      ∧ r.2.mem ((c : Thread nD τ).loc main_v57_2) = (dats m 0 c).arrAt 20 cfg0.N
      ∧ r.2.mem ((c : Thread nD τ).loc main_v57_3) = (dats m 0 c).arrAt 21 cfg0.N
      ∧ r.2.mem ((c : Thread nD τ).loc main_v57_4) = (dats m 0 c).arrAt 22 cfg0.N
      ∧ r.2.mem ((c : Thread nD τ).loc main_v57_5) = (dats m 0 c).arrAt 23 cfg0.N
      ∧ r.2.mem ((c : Thread nD τ).loc main_v57_6) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## No closed form for the canon of this window's pieces: output window 18's piece 1: the value generator stops at `iota` in its payload (not a pointwise or layout operation, a load, or a call of a payload over vectors). Prove the window's value by hand over `Value.run_blocks`. -/

/-! ## No closed form for the canon of this window's pieces: output window 19's piece 1: the value generator stops at `Scalar.select` in its payload (not a pointwise or layout operation, a load, or a call of a payload over vectors). Prove the window's value by hand over `Value.run_blocks`. -/

/-! ## No closed form for the canon of this window's pieces: output window 20's piece 0: its whole payload is an operation the value generator does not open (`matmul` is not a pointwise vector operation of loaded blocks and constants). Prove the window's value by hand over `Value.run_blocks`. -/

/-! ## No closed form for the canon of this window's pieces: output window 21's piece 0: its whole payload is an operation the value generator does not open (`matmul` is not a pointwise vector operation of loaded blocks and constants). Prove the window's value by hand over `Value.run_blocks`. -/

/-! ## No closed form for the canon of this window's pieces: output window 22's piece 0: its whole payload is an operation the value generator does not open (`matmul` is not a pointwise vector operation of loaded blocks and constants). Prove the window's value by hand over `Value.run_blocks`. -/

/-! ## No closed form for the canon of this window's pieces: output window 23's piece 0: the value generator stops at `Scalar.select` in its payload (not a pointwise or layout operation, a load, or a call of a payload over vectors). Prove the window's value by hand over `Value.run_blocks`. -/

/-! ## No closed form for the canon of this window's pieces: output window 24's piece 0: the value generator stops at `Scalar.select` in its payload (not a pointwise or layout operation, a load, or a call of a payload over vectors). Prove the window's value by hand over `Value.run_blocks`. -/

end Cert.PreIdeal.Value

end
-- ==== Proof.PreRow.lean ====
/- One row of the projections: the normed and modulated row, its products with columns of the input weights, and the values'
   normed latent. -/
module

public import Idealize.ShloMosaic.Lib.Pointwise

@[expose] public section

noncomputable section

namespace Cert.PreRow

open Idealize.ShloMosaic

/-- The normed row, modulated. -/
def normed (x g sc sh : Fin 1024 → EReal) (e : Fin 1024) : EReal :=
  x e * Ideal.rsqrt (Ideal.div (∑ j, x j * x j) (Ideal.ofBits .f32 0x44800000#32) + Ideal.ofBits .f32 0x358637BD#32) * g e * (1 + sc e) + sh e

/-- The row's product with one column of the input weights. -/
def proj (x g sc sh : Fin 1024 → EReal) (w : Fin 1024 → EReal) : EReal := ∑ e, normed x g sc sh e * w e

/-- An entry of a normed latent row. -/
def latent (z gk : Fin 256 → EReal) (j : Fin 256) : EReal :=
  z j * Ideal.rsqrt (Ideal.div (∑ k, z k * z k) (Ideal.ofBits .f32 0x43800000#32) + Ideal.ofBits .f32 0x358637BD#32) * gk j

/-- A value's entry: the normed latent row with one column of the value weights. -/
def value (x g sc sh : Fin 1024 → EReal) (wk : Fin 1024 → Fin 256 → EReal) (gk wv : Fin 256 → EReal) : EReal :=
  ∑ j, latent (fun k => proj x g sc sh fun e => wk e k) gk j * wv j

theorem proj_congr {x x' g g' sc sc' sh sh' w w' : Fin 1024 → EReal} (h1 : ∀ e, x e = x' e) (h2 : ∀ e, g e = g' e) (h3 : ∀ e, sc e = sc' e)
    (h4 : ∀ e, sh e = sh' e) (h5 : ∀ e, w e = w' e) : proj x g sc sh w = proj x' g' sc' sh' w' := by
  rw [funext h1, funext h2, funext h3, funext h4, funext h5]

theorem value_congr {x x' g g' sc sc' sh sh' : Fin 1024 → EReal} {wk wk' : Fin 1024 → Fin 256 → EReal} {gk gk' wv wv' : Fin 256 → EReal}
    (h1 : ∀ e, x e = x' e) (h2 : ∀ e, g e = g' e) (h3 : ∀ e, sc e = sc' e) (h4 : ∀ e, sh e = sh' e) (h5 : ∀ e k, wk e k = wk' e k)
    (h6 : ∀ k, gk k = gk' k) (h7 : ∀ k, wv k = wv' k) : value x g sc sh wk gk wv = value x' g' sc' sh' wk' gk' wv' := by
  rw [funext h1, funext h2, funext h3, funext h4, funext fun e => funext (h5 e), funext h6, funext h7]

section

variable (x : (⟨3, ![32, 2048, 1024]⟩ : Shape).Idx → EReal) (sh sc : (⟨3, ![32, 1, 1024]⟩ : Shape).Idx → EReal) (g : (⟨1, ![1024]⟩ : Shape).Idx → EReal)
  (wi : (⟨2, ![1024, 3392]⟩ : Shape).Idx → EReal) (gk : (⟨1, ![256]⟩ : Shape).Idx → EReal) (wv : (⟨2, ![256, 2048]⟩ : Shape).Idx → EReal)

/-- The product of row `(b, r)` with column `j` of the input weights. -/
def col (b : Fin 32) (r : Fin 2048) (j : Fin 3392) : EReal :=
  proj (fun e => x (ix3 b r e)) (fun e => g (ix1 e)) (fun e => sc (ix3 b 0 e)) (fun e => sh (ix3 b 0 e)) (fun e => wi (ix2 e j))

/-- The Fourier branch's input. -/
def four (y : (⟨3, ![32, 2048, 512]⟩ : Shape).Idx) : EReal := col x sh sc g wi (y 0) (y 1) ⟨832 + (y 2).val, by have := (y 2).isLt; change (y 2).val < 512 at this; omega⟩

/-- The gates. -/
def gates (y : (⟨3, ![32, 2048, 2048]⟩ : Shape).Idx) : EReal := col x sh sc g wi (y 0) (y 1) ⟨1344 + (y 2).val, by have := (y 2).isLt; change (y 2).val < 2048 at this; omega⟩

/-- Column `n` of the values, which lie by head behind the keys' parts. -/
def vcol (n : Fin 1024) : Fin 2048 := ⟨n.val / 128 * 256 + (128 + n.val % 128), by omega⟩

/-- The values, transposed. -/
def values (y : (⟨3, ![32, 1024, 2048]⟩ : Shape).Idx) : EReal :=
  value (fun e => x (ix3 (y 0) (y 2) e)) (fun e => g (ix1 e)) (fun e => sc (ix3 (y 0) 0 e)) (fun e => sh (ix3 (y 0) 0 e))
    (fun e k => wi (ix2 e (⟨512 + k.val, by omega⟩ : Fin 3392))) (fun k => gk (ix1 k)) (fun k => wv (ix2 k (vcol (y 1))))

end

end Cert.PreRow

end
-- ==== Proof.PreIdealTile.lean ====
/- The projections' stored tiles of the values, the Fourier input and the gates, read at an index. -/
module

public import proofs.«01_k».proof.Proof.PreRow
public import proofs.«01_k».proof.Proof.Gen.PreIdeal.Skeleton

@[expose] public section

set_option maxRecDepth 16384

noncomputable section

namespace Cert.PreIdeal.Step

open Idealize.ShloMosaic Idealize.ShloMosaic.TcCoe Cert.PreIdeal Cert.PreIdeal.Gen

section

variable (x : Vec Ideal S1x512x1024 .f32) (g : Vec Ideal S1x1024 .f32) (sc sh : Vec Ideal S1x1x1024 .f32) (wk : Vec Ideal S1024x256 .bf16) (gk : Vec Ideal S1x256 .f32)

theorem normed_apply (r : Fin 512) (e : Fin 1024) : k0_pay3 x g sc sh (ix2 r e)
    = PreRow.normed (fun e => x (ix3 0 r e)) (fun e => g (ix2 0 e)) (fun e => sc (ix3 0 0 e)) (fun e => sh (ix3 0 0 e)) e := by
  pointwise [k0_pay3, PreRow.normed]

theorem four_apply (w : Vec Ideal S1024x512 .bf16) (r : Fin 512) (j : Fin 512) : k0_pay19 (k0_pay3 x g sc sh) w (ix3 0 r j)
    = PreRow.proj (fun e => x (ix3 0 r e)) (fun e => g (ix2 0 e)) (fun e => sc (ix3 0 0 e)) (fun e => sh (ix3 0 0 e)) (fun e => w (ix2 e j)) := by
  pointwise [k0_pay19, PreRow.proj, normed_apply]

theorem gates_apply (w : Vec Ideal S1024x2048 .bf16) (r : Fin 512) (j : Fin 2048) : k0_pay20 (k0_pay3 x g sc sh) w (ix3 0 r j)
    = PreRow.proj (fun e => x (ix3 0 r e)) (fun e => g (ix2 0 e)) (fun e => sc (ix3 0 0 e)) (fun e => sh (ix3 0 0 e)) (fun e => w (ix2 e j)) := by
  pointwise [k0_pay20, PreRow.proj, normed_apply]

theorem lat_apply (r : Fin 512) (k : Fin 256) : k0_pay5 x g sc sh wk (ix2 r k)
    = PreRow.proj (fun e => x (ix3 0 r e)) (fun e => g (ix2 0 e)) (fun e => sc (ix3 0 0 e)) (fun e => sh (ix3 0 0 e)) (fun e => wk (ix2 e k)) := by
  pointwise [k0_pay5, PreRow.proj, normed_apply]

theorem latent_apply (z : FVec Ideal S512x256 .f32) (r : Fin 512) (k : Fin 256) : k0_pay9 z gk (ix2 r k)
    = PreRow.latent (fun k => z (ix2 r k)) (fun k => gk (ix2 0 k)) k := by
  pointwise [k0_pay9, PreRow.latent]

theorem turned_apply (v : FVec Ideal S512x256 .bf16) (w : Vec Ideal S1024x256 .bf16) (n : Fin 1024) (r : Fin 512) : k0_pay21 v w (ix3 0 n r)
    = ∑ k, w (ix2 n k) * v (ix2 r k) := by
  pointwise [k0_pay21]

theorem values_apply (w : Vec Ideal S1024x256 .bf16) (n : Fin 1024) (r : Fin 512) : k0_pay21 (k0_pay9 (k0_pay5 x g sc sh wk) gk) w (ix3 0 n r)
    = PreRow.value (fun e => x (ix3 0 r e)) (fun e => g (ix2 0 e)) (fun e => sc (ix3 0 0 e)) (fun e => sh (ix3 0 0 e)) (fun e k => wk (ix2 e k))
        (fun k => gk (ix2 0 k)) (fun k => w (ix2 n k)) := by
  rw [turned_apply]
  simp only [latent_apply, lat_apply, PreRow.value]
  exact Finset.sum_congr rfl fun k _ => mul_comm _ _

end

end Cert.PreIdeal.Step

end
-- ==== Proof.PreIdealValue.lean ====
/- The projections' result arrays of the values, the Fourier input and the gates. -/
module

public import proofs.«01_k».proof.Proof.PreIdealTile
public import proofs.«01_k».proof.Proof.PreIdealFrame
public import Idealize.ShloMosaic.Lib.Pipeline.ValueKit.Geometry

@[expose] public section

set_option maxRecDepth 16384

noncomputable section

namespace Cert.PreIdeal.Step

open Idealize.ShloMosaic Idealize.ShloMosaic.TcCoe Cert.PreIdeal Cert.PreIdeal.Gen
open Idealize.SL Idealize.SL.Sem
open Idealize.ShloMosaic.Pipeline (Dat Cfg Window)

section

variable (x0 : Vec Ideal S1x512x1024 .f32) (x1 : Vec Ideal S1x1x1024 .f32) (x2 : Vec Ideal S1x1x1024 .f32) (x3 : Vec Ideal S1x1024 .f32) (x4 : Vec Ideal S1024x512 .bf16) (x5 : Vec Ideal S1024x256 .bf16) (x6 : Vec Ideal S1024x128 .bf16) (x7 : Vec Ideal S1024x512 .bf16) (x8 : Vec Ideal S1024x2048 .bf16) (x9 : Vec Ideal S1x512 .f32) (x10 : Vec Ideal S1x256 .f32) (x11 : Vec Ideal S512x1024 .bf16) (x12 : Vec Ideal S512x512 .bf16) (x13 : Vec Ideal S256x1024 .bf16) (x14 : Vec Ideal S1024x256 .bf16) (x15 : Vec Ideal S16x512 .bf16) (x16 : Vec Ideal S512x128 .f32) (x17 : Vec Ideal S512x128 .f32)

theorem values_val (y : S1x1024x512.Idx) : out0_20 x0 x1 x2 x3 x4 x5 x6 x7 x8 x9 x10 x11 x12 x13 x14 x15 x16 x17 y
    = PreRow.value (fun e => x0 (ix3 0 (y 2) e)) (fun e => x3 (ix2 0 e)) (fun e => x2 (ix3 0 0 e)) (fun e => x1 (ix3 0 0 e)) (fun e k => x5 (ix2 e k))
        (fun k => x10 (ix2 0 k)) (fun k => x14 (ix2 (y 1) k)) := by
  unfold out0_20 k0_pay111
  rw [View.canon_unit_zero (by decide)]
  rw [View.ld_unit_zero (by decide), View.ld_unit_zero (by decide), View.ld_unit_zero (by decide), View.ld_unit_zero (by decide),
    View.ld_unit_zero (by decide), View.ld_unit_zero (by decide), View.ld_unit_zero (by decide)]
  obtain ⟨n, r, rfl⟩ : ∃ (n : Fin 1024) (r : Fin 512), y = ix3 0 n r := ⟨y 1, y 2, by rw [eq_ix3 y]; congr 1; exact Subsingleton.elim _ _⟩
  exact values_apply _ _ _ _ _ _ _ n r

theorem four_val (y : S1x512x512.Idx) : out0_21 x0 x1 x2 x3 x4 x5 x6 x7 x8 x9 x10 x11 x12 x13 x14 x15 x16 x17 y
    = PreRow.proj (fun e => x0 (ix3 0 (y 1) e)) (fun e => x3 (ix2 0 e)) (fun e => x2 (ix3 0 0 e)) (fun e => x1 (ix3 0 0 e)) (fun e => x7 (ix2 e (y 2))) := by
  unfold out0_21 k0_pay108
  rw [View.canon_unit_zero (by decide)]
  rw [View.ld_unit_zero (by decide), View.ld_unit_zero (by decide), View.ld_unit_zero (by decide), View.ld_unit_zero (by decide), View.ld_unit_zero (by decide)]
  obtain ⟨r, j, rfl⟩ : ∃ (r : Fin 512) (j : Fin 512), y = ix3 0 r j := ⟨y 1, y 2, by rw [eq_ix3 y]; congr 1; exact Subsingleton.elim _ _⟩
  exact four_apply _ _ _ _ _ r j

theorem gates_val (y : S1x512x2048.Idx) : out0_22 x0 x1 x2 x3 x4 x5 x6 x7 x8 x9 x10 x11 x12 x13 x14 x15 x16 x17 y
    = PreRow.proj (fun e => x0 (ix3 0 (y 1) e)) (fun e => x3 (ix2 0 e)) (fun e => x2 (ix3 0 0 e)) (fun e => x1 (ix3 0 0 e)) (fun e => x8 (ix2 e (y 2))) := by
  unfold out0_22 k0_pay108
  rw [View.canon_unit_zero (by decide)]
  rw [View.ld_unit_zero (by decide), View.ld_unit_zero (by decide), View.ld_unit_zero (by decide), View.ld_unit_zero (by decide), View.ld_unit_zero (by decide)]
  obtain ⟨r, j, rfl⟩ : ∃ (r : Fin 512) (j : Fin 2048), y = ix3 0 r j := ⟨y 1, y 2, by rw [eq_ix3 y]; congr 1; exact Subsingleton.elim _ _⟩
  exact gates_apply _ _ _ _ _ r j

end

theorem index0 : ∀ t : Fin grid0.N, win0_0.index t = ![(grid0.coords t 0).val, (grid0.coords t 1).val, 0] := by decide +kernel
theorem index1 : ∀ t : Fin grid0.N, win0_1.index t = ![(grid0.coords t 0).val, 0, 0] := by decide +kernel
theorem index2 : ∀ t : Fin grid0.N, win0_2.index t = ![(grid0.coords t 0).val, 0, 0] := by decide +kernel
theorem index3 : ∀ t : Fin grid0.N, win0_3.index t = ![0, 0] := by decide +kernel
theorem index5 : ∀ t : Fin grid0.N, win0_5.index t = ![0, 0] := by decide +kernel
theorem index7 : ∀ t : Fin grid0.N, win0_7.index t = ![0, 0] := by decide +kernel
theorem index8 : ∀ t : Fin grid0.N, win0_8.index t = ![0, 0] := by decide +kernel
theorem index10 : ∀ t : Fin grid0.N, win0_10.index t = ![0, 0] := by decide +kernel
theorem index14 : ∀ t : Fin grid0.N, win0_14.index t = ![0, 0] := by decide +kernel
theorem index20 : ∀ t : Fin grid0.N, win0_20.index t = ![(grid0.coords t 0).val, 0, (grid0.coords t 1).val] := by decide +kernel
theorem index21 : ∀ t : Fin grid0.N, win0_21.index t = ![(grid0.coords t 0).val, (grid0.coords t 1).val, 0] := by decide +kernel
theorem index22 : ∀ t : Fin grid0.N, win0_22.index t = ![(grid0.coords t 0).val, (grid0.coords t 1).val, 0] := by decide +kernel

variable (m : (ℓ : Loc nD τ sig) → Buf (Elt Ideal) ℓ) (c : Dev nD)

/-! The weights reach the region cut, cast and laid out. -/

theorem V_gpre (e : Fin 1024) : V m c (Pipeline.arrRef spec0 3) (ix2 0 e) = m ((c.tc : Thread nD τ).loc main_arg3) (ix1 e) := by
  have h : V m c (Pipeline.arrRef spec0 3) = shapeCast S1x1024 (m ((c.tc : Thread nD τ).loc main_arg3)) shapeCasts_S1024_S1x1024 := by
    unfold V hostOps0 hostOps0_1 hostOps0_2 hostOps0_3 hostOps0_4; after_results <;> rfl
  rw [h]
  pointwise
theorem V_wk (e : Fin 1024) (k : Fin 256) : V m c (Pipeline.arrRef spec0 5) (ix2 e k) = m ((c.tc : Thread nD τ).loc main_arg4) (ix2 e (⟨512 + k.val, by omega⟩ : Fin 3392)) := by
  have h : V m c (Pipeline.arrRef spec0 5) = (truncf (F := Ideal) (φ := .f32) .bf16 (extractStridedSlice S1024x256 ![0, 512] (m ((c.tc : Thread nD τ).loc main_arg4)) slices_S1024x3392_S1024x256_0_512 : FVec Ideal S1024x256 .f32) bitsLt_bf16_f32 : FVec Ideal S1024x256 .bf16) := by
    unfold V hostOps0 hostOps0_1 hostOps0_2 hostOps0_3 hostOps0_4; after_results <;> rfl
  rw [h]
  pointwise
theorem V_wf (e : Fin 1024) (k : Fin 512) : V m c (Pipeline.arrRef spec0 7) (ix2 e k) = m ((c.tc : Thread nD τ).loc main_arg4) (ix2 e (⟨832 + k.val, by omega⟩ : Fin 3392)) := by
  have h : V m c (Pipeline.arrRef spec0 7) = (truncf (F := Ideal) (φ := .f32) .bf16 (extractStridedSlice S1024x512 ![0, 832] (m ((c.tc : Thread nD τ).loc main_arg4)) slices_S1024x3392_S1024x512_0_832 : FVec Ideal S1024x512 .f32) bitsLt_bf16_f32 : FVec Ideal S1024x512 .bf16) := by
    unfold V hostOps0 hostOps0_1 hostOps0_2 hostOps0_3 hostOps0_4; after_results <;> rfl
  rw [h]
  pointwise
theorem V_wg (e : Fin 1024) (k : Fin 2048) : V m c (Pipeline.arrRef spec0 8) (ix2 e k) = m ((c.tc : Thread nD τ).loc main_arg4) (ix2 e (⟨1344 + k.val, by omega⟩ : Fin 3392)) := by
  have h : V m c (Pipeline.arrRef spec0 8) = (truncf (F := Ideal) (φ := .f32) .bf16 (extractStridedSlice S1024x2048 ![0, 1344] (m ((c.tc : Thread nD τ).loc main_arg4)) slices_S1024x3392_S1024x2048_0_1344 : FVec Ideal S1024x2048 .f32) bitsLt_bf16_f32 : FVec Ideal S1024x2048 .bf16) := by
    unfold V hostOps0 hostOps0_1 hostOps0_2 hostOps0_3 hostOps0_4; after_results <;> rfl
  rw [h]
  pointwise
theorem V_gkv (k : Fin 256) : V m c (Pipeline.arrRef spec0 10) (ix2 0 k) = m ((c.tc : Thread nD τ).loc main_arg7) (ix1 k) := by
  have h : V m c (Pipeline.arrRef spec0 10) = shapeCast S1x256 (m ((c.tc : Thread nD τ).loc main_arg7)) shapeCasts_S256_S1x256 := by
    unfold V hostOps0 hostOps0_1 hostOps0_2 hostOps0_3 hostOps0_4; after_results <;> rfl
  rw [h]
  pointwise
theorem V_wv (n : Fin 1024) (k : Fin 256) : V m c (Pipeline.arrRef spec0 14) (ix2 n k) = m ((c.tc : Thread nD τ).loc main_arg8) (ix2 k (PreRow.vcol n)) := by
  have h : V m c (Pipeline.arrRef spec0 14) = (truncf (F := Ideal) (φ := .f32) .bf16 (transpose S1024x256 [1, 0] (shapeCast S256x1024 (extractStridedSlice S256x8x128 ![0, 0, 128] (shapeCast S256x8x256 (m ((c.tc : Thread nD τ).loc main_arg8)) shapeCasts_S256x2048_S256x8x256) slices_S256x8x256_S256x8x128_0_0_128) shapeCasts_S256x8x128_S256x1024) transposes_S256x1024_S1024x256_1_0 : FVec Ideal S1024x256 .f32) bitsLt_bf16_f32 : FVec Ideal S1024x256 .bf16) := by
    unfold V hostOps0 hostOps0_1 hostOps0_2 hostOps0_3 hostOps0_4; after_results <;> rfl
  rw [h]
  pointwise
  rfl

set_option maxHeartbeats 2000000 in
/-- The Fourier input after the run. -/
theorem final_four : (dats m 0 c).arrAt 21 cfg0.N = PreRow.four (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 21 _ (by decide +kernel) fun t hf y => ?_
  have e0 := index0 t; have e1 := index1 t; have e2 := index2 t; have e3 := index3 t; have e7 := index7 t; have e21 := index21 t
  blk_simp
  rw [after0_21, four_val]
  unfold PreRow.four PreRow.col
  refine PreRow.proj_congr (fun e => ?_) (fun e => ?_) (fun e => ?_) (fun e => ?_) (fun e => ?_)
  · exact (congrFun (V_main_arg0 m c) _).trans (congrArg _ (by blk_ext [e0, e21]))
  · exact (congrArg (V m c (Pipeline.arrRef spec0 3)) (by blk_ext [e3])).trans (V_gpre m c e)
  · exact (congrFun (V_main_arg2 m c) _).trans (congrArg _ (by blk_ext [e2, e21]))
  · exact (congrFun (V_main_arg1 m c) _).trans (congrArg _ (by blk_ext [e1, e21]))
  · exact ((congrArg (V m c (Pipeline.arrRef spec0 7)) (by blk_ext [e7])).trans (V_wf m c e (y 2))).trans (congrArg _ (by blk_ext [e21]))

set_option maxHeartbeats 2000000 in
/-- The gates after the run. -/
theorem final_gates : (dats m 0 c).arrAt 22 cfg0.N = PreRow.gates (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 22 _ (by decide +kernel) fun t hf y => ?_
  have e0 := index0 t; have e1 := index1 t; have e2 := index2 t; have e3 := index3 t; have e8 := index8 t; have e22 := index22 t
  blk_simp
  rw [after0_22, gates_val]
  unfold PreRow.gates PreRow.col
  refine PreRow.proj_congr (fun e => ?_) (fun e => ?_) (fun e => ?_) (fun e => ?_) (fun e => ?_)
  · exact (congrFun (V_main_arg0 m c) _).trans (congrArg _ (by blk_ext [e0, e22]))
  · exact (congrArg (V m c (Pipeline.arrRef spec0 3)) (by blk_ext [e3])).trans (V_gpre m c e)
  · exact (congrFun (V_main_arg2 m c) _).trans (congrArg _ (by blk_ext [e2, e22]))
  · exact (congrFun (V_main_arg1 m c) _).trans (congrArg _ (by blk_ext [e1, e22]))
  · exact ((congrArg (V m c (Pipeline.arrRef spec0 8)) (by blk_ext [e8])).trans (V_wg m c e (y 2))).trans (congrArg _ (by blk_ext [e22]))

set_option maxHeartbeats 2000000 in
/-- The values after the run. -/
theorem final_values : (dats m 0 c).arrAt 20 cfg0.N = PreRow.values (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg7)) (m ((c.tc : Thread nD τ).loc main_arg8)) := by
  refine (dats m 0 c).arrAt_eq_of_covers 20 _ (by decide +kernel) fun t hf y => ?_
  have e0 := index0 t; have e1 := index1 t; have e2 := index2 t; have e3 := index3 t; have e5 := index5 t; have e10 := index10 t; have e14 := index14 t
  have e20 := index20 t
  blk_simp
  rw [after0_20, values_val]
  unfold PreRow.values
  refine PreRow.value_congr (fun e => ?_) (fun e => ?_) (fun e => ?_) (fun e => ?_) (fun e k => ?_) (fun k => ?_) (fun k => ?_)
  · exact (congrFun (V_main_arg0 m c) _).trans (congrArg _ (by blk_ext [e0, e20]))
  · exact (congrArg (V m c (Pipeline.arrRef spec0 3)) (by blk_ext [e3])).trans (V_gpre m c e)
  · exact (congrFun (V_main_arg2 m c) _).trans (congrArg _ (by blk_ext [e2, e20]))
  · exact (congrFun (V_main_arg1 m c) _).trans (congrArg _ (by blk_ext [e1, e20]))
  · exact (congrArg (V m c (Pipeline.arrRef spec0 5)) (by blk_ext [e5])).trans (V_wk m c e k)
  · exact (congrArg (V m c (Pipeline.arrRef spec0 10)) (by blk_ext [e10])).trans (V_gkv m c k)
  · refine ((congrArg (V m c (Pipeline.arrRef spec0 14)) (by blk_ext [e14])).trans (V_wv m c (y 1) k)).trans (congrArg (fun n => m ((c.tc : Thread nD τ).loc main_arg8) (ix2 k (PreRow.vcol n))) ?_)
    apply Fin.ext; blk_simp [e20]

end Cert.PreIdeal.Step

end
-- ==== Proof.PreRefValue.lean ====
/- The reference projections read at an index. -/
module

public import proofs.«01_k».proof.Proof.PreRow
public import proofs.«01_k».proof.Proof.Gen.PreRefIdeal
public import proofs.«01_k».proof.Proof.Gen.PreRefIdeal.Run

@[expose] public section

set_option maxRecDepth 16384

noncomputable section

namespace Cert.PreRefIdeal.Value

open Cert.PreRefIdeal Cert.PreRefIdeal.Gen Idealize.ShloMosaic Idealize.ShloMosaic.TcCoe

section

variable (x : FVec Ideal S32x2048x1024 .f32) (sh sc : FVec Ideal S32x1x1024 .f32) (g : FVec Ideal S1024 .f32) (wi : FVec Ideal S1024x3392 .f32)
  (gk : FVec Ideal S256 .f32) (wv : FVec Ideal S256x2048 .f32)

/-- The products of the normed rows with the input weights. -/
def zed : FVec Ideal S32x2048x3392 .f32 :=
  Host.dotGeneral dot_S32x2048x1024_S1024x3392_S32x2048x3392_2_0_01_1_n_n none (addf (mulf (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))) (broadcastInDim S32x2048x1024 ![0, 1, 2] bcast_S32x1x1024_S32x2048x1024_0_1_2 (addf (broadcastInDim S32x1x1024 ![] bcast_S_S32x1x1024 (constant S_ .f32 0x3F800000#32)) sc))) (broadcastInDim S32x2048x1024 ![0, 1, 2] bcast_S32x1x1024_S32x2048x1024_0_1_2 sh)) wi

theorem zed_apply (b : Fin 32) (r : Fin 2048) (j : Fin 3392) : zed x sh sc g wi (ix3 b r j) = PreRow.col x sh sc g wi b r j := by
  pointwise [zed, PreRow.col, PreRow.proj, PreRow.normed]

theorem four_eq : (truncf (F := Ideal) (φ := .f32) .bf16 (extractStridedSlice S32x2048x512 ![0, 0, 832] (zed x sh sc g wi) slices_S32x2048x3392_S32x2048x512_0_0_832 : FVec Ideal S32x2048x512 .f32) bitsLt_bf16_f32 : FVec Ideal S32x2048x512 .bf16)
    = PreRow.four x sh sc g wi := by
  funext y
  idx_vars y
  pointwise [PreRow.four, zed_apply]

theorem gates_eq : (truncf (F := Ideal) (φ := .f32) .bf16 (extractStridedSlice S32x2048x2048 ![0, 0, 1344] (zed x sh sc g wi) slices_S32x2048x3392_S32x2048x2048_0_0_1344 : FVec Ideal S32x2048x2048 .f32) bitsLt_bf16_f32 : FVec Ideal S32x2048x2048 .bf16)
    = PreRow.gates x sh sc g wi := by
  funext y
  idx_vars y
  pointwise [PreRow.gates, zed_apply]

/-- The products' columns that hold the values' latent. -/
def lat : FVec Ideal S32x2048x256 .f32 := extractStridedSlice S32x2048x256 ![0, 0, 512] (zed x sh sc g wi) slices_S32x2048x3392_S32x2048x256_0_0_512

/-- The normed latents' products with the value weights. -/
def kv (z : FVec Ideal S32x2048x256 .f32) : FVec Ideal S32x2048x2048 .f32 :=
  Host.dotGeneral dot_S32x2048x256_S256x2048_S32x2048x2048_2_0_01_1_n_n none (mulf (mulf z (broadcastInDim S32x2048x256 ![0, 1, 2] bcast_S32x2048x1_S32x2048x256_0_1_2 (Host.rsqrt (addf (Host.divf (broadcastInDim S32x2048x1 ![0, 1] bcast_S32x2048_S32x2048x1_0_1 (Host.reduceAdd (mulf z z) (constant S_ .f32 0x00000000#32) reducesTo_S32x2048x256_S32x2048_d2 h_S_)) (broadcastInDim S32x2048x1 ![] bcast_S_S32x2048x1 (constant S_ .f32 0x43800000#32))) (broadcastInDim S32x2048x1 ![] bcast_S_S32x2048x1 (constant S_ .f32 0x358637BD#32)))))) (broadcastInDim S32x2048x256 ![0, 1, 2] bcast_S1x1x256_S32x2048x256_0_1_2 (broadcastInDim S1x1x256 ![2] bcast_S256_S1x1x256_2 gk))) wv

theorem lat_apply (b : Fin 32) (r : Fin 2048) (k : Fin 256) : lat x sh sc g wi (ix3 b r k) = PreRow.col x sh sc g wi b r ⟨512 + k.val, by omega⟩ := by
  pointwise [lat, zed_apply]

theorem kv_apply (z : FVec Ideal S32x2048x256 .f32) (b : Fin 32) (r : Fin 2048) (n : Fin 2048) :
    kv gk wv z (ix3 b r n) = ∑ j, PreRow.latent (fun k => z (ix3 b r k)) (fun k => gk (ix1 k)) j * wv (ix2 j n) := by
  pointwise [kv, PreRow.latent]

/-- The values transposed, out of all the products. -/
def turned (u : FVec Ideal S32x2048x2048 .f32) : FVec Ideal S32x1024x2048 .bf16 :=
  truncf .bf16 (transpose S32x1024x2048 [0, 2, 1] (shapeCast _ (extractStridedSlice S32x2048x8x128 ![0, 0, 0, 128] (shapeCast _ u shapeCasts_S32x2048x2048_S32x2048x8x256) slices_S32x2048x8x256_S32x2048x8x128_0_0_0_128) shapeCasts_S32x2048x8x128_S32x2048x1024) transposes_S32x2048x1024_S32x1024x2048_0_2_1) bitsLt_bf16_f32

theorem turned_apply (u : FVec Ideal S32x2048x2048 .f32) (b : Fin 32) (n : Fin 1024) (r : Fin 2048) : turned u (ix3 b n r) = u (ix3 b r (PreRow.vcol n)) := by
  pointwise [turned]
  rfl

theorem values_eq : turned (kv gk wv (lat x sh sc g wi)) = PreRow.values x sh sc g wi gk wv := by
  funext y
  idx_vars y
  rw [turned_apply, kv_apply]
  simp only [lat_apply]
  rfl

end

variable (m : (ℓ : Loc nD τ sig) → Buf (Elt Ideal) ℓ) (c : Dev nD)

theorem res_values : res_out0 m c = PreRow.values (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg7)) (m ((c.tc : Thread nD τ).loc main_arg8)) := by
  rw [← values_eq]
  unfold res_out0 res_main_v41 turned kv lat zed
  rfl

end Cert.PreRefIdeal.Value

end
-- ==== Proof.PreClaims.lean ====
/- The projections call's claims: its values, its Fourier input and its gates. -/
module

public import proofs.«01_k».proof.Defs
public import proofs.«01_k».proof.Proof.PreFrame
public import proofs.«01_k».proof.Proof.PreIdealBlocks
public import proofs.«01_k».proof.Proof.PreIdealValue
public import proofs.«01_k».proof.Proof.PreRefValue
public import Idealize.ShloMosaic.Lib.Quiescent

@[expose] public section

set_option maxRecDepth 16384

noncomputable section

namespace Cert.Proof

open Idealize.ShloMosaic Idealize.SL.Sem

theorem frame_Pre : Cert.quiescent_Pre := fun m ρ _ => Cert.Pre.Gen.frame m ρ

theorem frame_PreIdeal : Cert.quiescent_PreIdeal := fun m ρ _ => Cert.PreIdeal.Gen.frame m ρ

theorem frame_PreRef : Cert.quiescent_PreRefIdeal := fun m ρ _ =>
  (θ_run Cert.PreRefIdeal.defs _ _).mono (fun r h => ⟨fun c => (h c).2.2.2, Idealize.ShloMosaic.sem_eq_zero_of_no_sems (by decide) r.2⟩)
    (Cert.PreRefIdeal.Value.run (F := Ideal) m ρ)

set_option maxHeartbeats 8000000 in
theorem value_Pre : Cert.algebraic_PreIdeal_PreRefIdeal := by
  intro m ρ m' ρ' _ hagree
  refine ⟨fun c => (Cert.PreIdeal.Gen.dats m 0 c).arrAt 20 Cert.PreIdeal.cfg0.N, fun c => (Cert.PreIdeal.Gen.dats m 0 c).arrAt 21 Cert.PreIdeal.cfg0.N,
    fun c => (Cert.PreIdeal.Gen.dats m 0 c).arrAt 22 Cert.PreIdeal.cfg0.N, ?_, ?_⟩
  · refine (θ_run Cert.PreIdeal.defs _ _).mono (fun r h c => ?_) (Cert.PreIdeal.Value.run_blocks m ρ)
    obtain ⟨-, -, h20, h21, h22, -, -, hk⟩ := h c
    exact ⟨h20, h21, h22, hk⟩
  · refine (θ_run Cert.PreRefIdeal.defs _ _).mono (fun r h c => ⟨(h c).1.trans ?_, (h c).2.1.trans ?_, (h c).2.2.1.trans ?_, (h c).2.2.2⟩)
      (Cert.PreRefIdeal.Value.run (F := Ideal) m' ρ')
    all_goals obtain ⟨e0, e1, e2, e3, e4, e5, e6, e7, e8⟩ := hagree c
    · refine (Cert.PreRefIdeal.Value.res_values m' c).trans (Eq.trans ?_ (Cert.PreIdeal.Step.final_values m c).symm)
      rw [e0, e1, e2, e3, e4, e7, e8]
    · have h := Cert.PreRefIdeal.Value.four_eq (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2)) (m' ((c.tc : Thread Cert.PreRefIdeal.nD Cert.PreRefIdeal.τ).loc Cert.PreRefIdeal.main_arg3)) (m' ((c.tc : Thread Cert.PreRefIdeal.nD Cert.PreRefIdeal.τ).loc Cert.PreRefIdeal.main_arg4))
      unfold Cert.PreRefIdeal.Value.zed at h
      refine h.trans (Eq.trans ?_ (Cert.PreIdeal.Step.final_four m c).symm)
      rw [e0, e1, e2, e3, e4]
    · have h := Cert.PreRefIdeal.Value.gates_eq (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2)) (m' ((c.tc : Thread Cert.PreRefIdeal.nD Cert.PreRefIdeal.τ).loc Cert.PreRefIdeal.main_arg3)) (m' ((c.tc : Thread Cert.PreRefIdeal.nD Cert.PreRefIdeal.τ).loc Cert.PreRefIdeal.main_arg4))
      unfold Cert.PreRefIdeal.Value.zed at h
      refine h.trans (Eq.trans ?_ (Cert.PreIdeal.Step.final_gates m c).symm)
      rw [e0, e1, e2, e3, e4]

end Cert.Proof

end
-- ==== Proof.lean ====
module

public import proofs.«01_k».proof.Proof.AttnClaims
public import proofs.«01_k».proof.Proof.FfnClaims
public import proofs.«01_k».proof.Proof.MergeClaims
public import proofs.«01_k».proof.Proof.PreClaims

@[expose] public section

noncomputable section

namespace Cert.Proof

theorem claim : Cert.Claim := ⟨Cert.Attn.Gen.facts, Cert.AttnIdeal.Gen.facts, Cert.AttnRefIdeal.Gen.facts, Cert.Ffn.Gen.facts, Cert.FfnIdeal.Gen.facts,
  Cert.FfnRefIdeal.Gen.facts, Cert.Merge.Gen.facts, Cert.MergeIdeal.Gen.facts,
  Cert.MergeRefIdeal.Gen.facts, Cert.Pre.Gen.facts, Cert.PreIdeal.Gen.facts, Cert.PreRefIdeal.Gen.facts, Cert.Pre_finite_inputs.Gen.facts,
  frame_Attn, frame_AttnIdeal, frame_AttnIdeal_finite, frame_AttnRef, frame_AttnRef_finite, frame_Ffn, frame_FfnIdeal, frame_FfnRef, frame_Merge, frame_MergeIdeal,
  frame_MergeRef, frame_Pre, frame_PreIdeal, frame_PreRef, trivial, value_Attn, preserves_Ffn, value_Ffn, trivial, value_Merge, trivial, value_Pre⟩

end Cert.Proof

end
